-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x39AAAAAB#32 ((1 / 3072 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x3072 : Shape := ⟨3, ![2, 1024, 3072]⟩
abbrev S2x1024 : Shape := ⟨2, ![2, 1024]⟩
abbrev S2x3072 : Shape := ⟨2, ![2, 3072]⟩
abbrev S2x3x3072 : Shape := ⟨3, ![2, 3, 3072]⟩
abbrev S2x8x3x3072 : Shape := ⟨4, ![2, 8, 3, 3072]⟩
abbrev S1x128x3072 : Shape := ⟨3, ![1, 128, 3072]⟩
abbrev S1x3x3072 : Shape := ⟨3, ![1, 3, 3072]⟩
abbrev S1x1x3x3072 : Shape := ⟨4, ![1, 1, 3, 3072]⟩
abbrev S128x128 : Shape := ⟨2, ![128, 128]⟩
abbrev S3x8x3072 : Shape := ⟨3, ![3, 8, 3072]⟩
abbrev S1x3072 : Shape := ⟨2, ![1, 3072]⟩
abbrev S2x128 : Shape := ⟨2, ![2, 128]⟩
abbrev S1x128 : Shape := ⟨2, ![1, 128]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S1x8x128 : Shape := ⟨3, ![1, 8, 128]⟩
abbrev S8x128 : Shape := ⟨2, ![8, 128]⟩
abbrev S4x8x128 : Shape := ⟨3, ![4, 8, 128]⟩
abbrev S3x3072 : Shape := ⟨2, ![3, 3072]⟩

abbrev nBuf : Space → Nat
  | .hbm => 11
  | .vmem => 23
  | .smem => 0
  | _ => 0

abbrev bufTy : (tb : Table) → Fin (tcTables nBuf tb) → BufTy
  | .hbm, ⟨0, _⟩ => ⟨S2x1024x3072, .fp8e4m3⟩
  | .hbm, ⟨1, _⟩ => ⟨S2x1024, .f32⟩
  | .hbm, ⟨2, _⟩ => ⟨S2x1024x3072, .bf16⟩
  | .hbm, ⟨3, _⟩ => ⟨S2x1024x3072, .fp8e5m2⟩
  | .hbm, ⟨4, _⟩ => ⟨S2x1024, .f32⟩
  | .hbm, ⟨5, _⟩ => ⟨S2x1024x3072, .fp8e5m2⟩
  | .hbm, ⟨6, _⟩ => ⟨S2x1024, .f32⟩
  | .hbm, ⟨7, _⟩ => ⟨S2x3072, .f32⟩
  | .hbm, ⟨8, _⟩ => ⟨S2x1024x3072, .bf16⟩
  | .hbm, ⟨9, _⟩ => ⟨S2x3x3072, .f32⟩
  | .hbm, ⟨10, _⟩ => ⟨S2x8x3x3072, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x3072, .f32⟩
  | .local _ .vmem, ⟨4, _⟩ => ⟨S1x128x3072, .fp8e4m3⟩
  | .local _ .vmem, ⟨5, _⟩ => ⟨S1x128x3072, .fp8e4m3⟩
  | .local _ .vmem, ⟨6, _⟩ => ⟨S1x128x3072, .bf16⟩
  | .local _ .vmem, ⟨7, _⟩ => ⟨S1x128x3072, .bf16⟩
  | .local _ .vmem, ⟨8, _⟩ => ⟨S1x128x3072, .fp8e5m2⟩
  | .local _ .vmem, ⟨9, _⟩ => ⟨S1x128x3072, .fp8e5m2⟩
  | .local _ .vmem, ⟨10, _⟩ => ⟨S1x128x3072, .fp8e5m2⟩
  | .local _ .vmem, ⟨11, _⟩ => ⟨S1x128x3072, .fp8e5m2⟩
  | .local _ .vmem, ⟨12, _⟩ => ⟨S1x128x3072, .bf16⟩
  | .local _ .vmem, ⟨13, _⟩ => ⟨S1x128x3072, .bf16⟩
  | .local _ .vmem, ⟨14, _⟩ => ⟨S1x3x3072, .f32⟩
  | .local _ .vmem, ⟨15, _⟩ => ⟨S1x3x3072, .f32⟩
  | .local _ .vmem, ⟨16, _⟩ => ⟨S1x1x3x3072, .f32⟩
  | .local _ .vmem, ⟨17, _⟩ => ⟨S1x1x3x3072, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S3x8x3072, .f32⟩
  | .local _ .vmem, ⟨22, _⟩ => ⟨S1x3072, .f32⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let c0 : Index := 0#32
  let arg1 : BitVec 32 := BitVec.ofNat 32 (i 1).val
  let c128_i32 : BitVec 32 := 128#32
  let v0 : BitVec 32 := Scalar.muli arg1 c128_i32
  let v1 : BitVec 32 := v0
  let v2 : Index := Scalar.indexCast v1
  ![0, v2.toNat]
@[reducible] def k0_t1_loop : Scf.Loop 32 :=
  let c0_i32 : BitVec 32 := 0#32
  let c4_i32 : BitVec 32 := 4#32
  let v52 : BitVec 32 := Scalar.addi c0_i32 c4_i32
  let c1_i32_19 : BitVec 32 := 1#32
  ⟨c0_i32, v52, c1_i32_19⟩
def k0_mult2 (k0_t1 : Fin k0_t1_loop.trips) : BitVec 32 :=
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  v64
def k0_off2 (k0_t1 : Fin k0_t1_loop.trips) : Fin 2 → Nat :=
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v66 : Index := Scalar.indexCast v65
  let c0_33 : Index := 0#32
  ![v66.toNat, 0]
def k0_off3 (k0_t1 : Fin k0_t1_loop.trips) : Fin 3 → Nat :=
  let c0_38 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v74 : Index := Scalar.indexCast v65
  let c0_39 : Index := 0#32
  ![0, v74.toNat, 0]
def k0_off4 (k0_t1 : Fin k0_t1_loop.trips) : Fin 3 → Nat :=
  let c0_44 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v89 : Index := Scalar.indexCast v65
  let c128 : Index := 128#32
  ![0, v89.toNat, 128]
def k0_off5 (k0_t1 : Fin k0_t1_loop.trips) : Fin 3 → Nat :=
  let c0_49 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v104 : Index := Scalar.indexCast v65
  let c256 : Index := 256#32
  ![0, v104.toNat, 256]
def k0_off6 (k0_t1 : Fin k0_t1_loop.trips) : Fin 3 → Nat :=
  let c0_54 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v119 : Index := Scalar.indexCast v65
  let c384 : Index := 384#32
  ![0, v119.toNat, 384]
def k0_off7 (k0_t1 : Fin k0_t1_loop.trips) : Fin 3 → Nat :=
  let c0_59 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v134 : Index := Scalar.indexCast v65
  let c512 : Index := 512#32
  ![0, v134.toNat, 512]
def k0_off8 (k0_t1 : Fin k0_t1_loop.trips) : Fin 3 → Nat :=
  let c0_64 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v149 : Index := Scalar.indexCast v65
  let c640 : Index := 640#32
  ![0, v149.toNat, 640]
def k0_off9 (k0_t1 : Fin k0_t1_loop.trips) : Fin 3 → Nat :=
  let c0_69 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v164 : Index := Scalar.indexCast v65
  let c768 : Index := 768#32
  ![0, v164.toNat, 768]
def k0_off10 (k0_t1 : Fin k0_t1_loop.trips) : Fin 3 → Nat :=
  let c0_74 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v179 : Index := Scalar.indexCast v65
  let c896 : Index := 896#32
  ![0, v179.toNat, 896]
def k0_off11 (k0_t1 : Fin k0_t1_loop.trips) : Fin 3 → Nat :=
  let c0_79 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v194 : Index := Scalar.indexCast v65
  let c1024 : Index := 1024#32
  ![0, v194.toNat, 1024]
def k0_off12 (k0_t1 : Fin k0_t1_loop.trips) : Fin 3 → Nat :=
  let c0_84 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v209 : Index := Scalar.indexCast v65
  let c1152 : Index := 1152#32
  ![0, v209.toNat, 1152]
def k0_off13 (k0_t1 : Fin k0_t1_loop.trips) : Fin 3 → Nat :=
  let c0_89 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v224 : Index := Scalar.indexCast v65
  let c1280 : Index := 1280#32
  ![0, v224.toNat, 1280]
def k0_off14 (k0_t1 : Fin k0_t1_loop.trips) : Fin 3 → Nat :=
  let c0_94 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v239 : Index := Scalar.indexCast v65
  let c1408 : Index := 1408#32
  ![0, v239.toNat, 1408]
def k0_off15 (k0_t1 : Fin k0_t1_loop.trips) : Fin 3 → Nat :=
  let c0_99 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v254 : Index := Scalar.indexCast v65
  let c1536 : Index := 1536#32
  ![0, v254.toNat, 1536]
def k0_off16 (k0_t1 : Fin k0_t1_loop.trips) : Fin 3 → Nat :=
  let c0_104 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v269 : Index := Scalar.indexCast v65
  let c1664 : Index := 1664#32
  ![0, v269.toNat, 1664]
def k0_off17 (k0_t1 : Fin k0_t1_loop.trips) : Fin 3 → Nat :=
  let c0_109 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v284 : Index := Scalar.indexCast v65
  let c1792 : Index := 1792#32
  ![0, v284.toNat, 1792]
def k0_off18 (k0_t1 : Fin k0_t1_loop.trips) : Fin 3 → Nat :=
  let c0_114 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v299 : Index := Scalar.indexCast v65
  let c1920 : Index := 1920#32
  ![0, v299.toNat, 1920]
def k0_off19 (k0_t1 : Fin k0_t1_loop.trips) : Fin 3 → Nat :=
  let c0_119 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v314 : Index := Scalar.indexCast v65
  let c2048 : Index := 2048#32
  ![0, v314.toNat, 2048]
def k0_off20 (k0_t1 : Fin k0_t1_loop.trips) : Fin 3 → Nat :=
  let c0_124 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v329 : Index := Scalar.indexCast v65
  let c2176 : Index := 2176#32
  ![0, v329.toNat, 2176]
def k0_off21 (k0_t1 : Fin k0_t1_loop.trips) : Fin 3 → Nat :=
  let c0_129 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v344 : Index := Scalar.indexCast v65
  let c2304 : Index := 2304#32
  ![0, v344.toNat, 2304]
def k0_off22 (k0_t1 : Fin k0_t1_loop.trips) : Fin 3 → Nat :=
  let c0_134 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v359 : Index := Scalar.indexCast v65
  let c2432 : Index := 2432#32
  ![0, v359.toNat, 2432]
def k0_off23 (k0_t1 : Fin k0_t1_loop.trips) : Fin 3 → Nat :=
  let c0_139 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v374 : Index := Scalar.indexCast v65
  let c2560 : Index := 2560#32
  ![0, v374.toNat, 2560]
def k0_off24 (k0_t1 : Fin k0_t1_loop.trips) : Fin 3 → Nat :=
  let c0_144 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v389 : Index := Scalar.indexCast v65
  let c2688 : Index := 2688#32
  ![0, v389.toNat, 2688]
def k0_off25 (k0_t1 : Fin k0_t1_loop.trips) : Fin 3 → Nat :=
  let c0_149 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v404 : Index := Scalar.indexCast v65
  let c2816 : Index := 2816#32
  ![0, v404.toNat, 2816]
def k0_off26 (k0_t1 : Fin k0_t1_loop.trips) : Fin 3 → Nat :=
  let c0_154 : Index := 0#32
  let c0_i32 : BitVec 32 := 0#32
  let c1_i32_19 : BitVec 32 := 1#32
  let arg18 : BitVec 32 := Scf.iv c0_i32 c1_i32_19 k0_t1
  let c32_i32 : BitVec 32 := 32#32
  let v64 : BitVec 32 := Scalar.muli arg18 c32_i32
  let v65 : BitVec 32 := v64
  let v419 : Index := Scalar.indexCast v65
  let c2944 : Index := 2944#32
  ![0, v419.toNat, 2944]
def k0_cond1 (i : grid0.Coords) : BitVec 1 :=
  let arg1 : BitVec 32 := BitVec.ofNat 32 (i 1).val
  let c0_i32_29 : BitVec 32 := 0#32
  let v58 : BitVec 1 := Scalar.cmpi .eq arg1 c0_i32_29
  let v59 : BitVec 32 := Scalar.extui v58
  let c0_i32_30 : BitVec 32 := 0#32
  let v60 : BitVec 1 := Scalar.cmpi .ne v59 c0_i32_30
  v60

def k0_cond2 (i : grid0.Coords) : BitVec 1 :=
  let arg1 : BitVec 32 := BitVec.ofNat 32 (i 1).val
  let c0_i32_31 : BitVec 32 := 0#32
  let v61 : BitVec 1 := Scalar.cmpi .sgt arg1 c0_i32_31
  let v62 : BitVec 32 := Scalar.extui v61
  let c0_i32_32 : BitVec 32 := 0#32
  let v63 : BitVec 1 := Scalar.cmpi .ne v62 c0_i32_32
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x3072 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x3072 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x3072 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_d" => some ((1 / 3072 : ℝ) : EReal)
  | _ => none
-- ==== ReferenceIdeal.lean ====
abbrev S2x1024x3072 : Shape := ⟨3, ![2, 1024, 3072]⟩
abbrev S2x1024 : Shape := ⟨2, ![2, 1024]⟩
abbrev S2x3072 : Shape := ⟨2, ![2, 3072]⟩
abbrev S2x3x3072 : Shape := ⟨3, ![2, 3, 3072]⟩
abbrev S2x8x3x3072 : Shape := ⟨4, ![2, 8, 3, 3072]⟩
abbrev S2x1024x1 : Shape := ⟨3, ![2, 1024, 1]⟩
abbrev S2x8x128x3072 : Shape := ⟨4, ![2, 8, 128, 3072]⟩
abbrev S2x8x128 : Shape := ⟨3, ![2, 8, 128]⟩
abbrev S2x8x128x1 : Shape := ⟨4, ![2, 8, 128, 1]⟩
abbrev S2x8x3072 : Shape := ⟨3, ![2, 8, 3072]⟩
abbrev S2x8x1x3072 : Shape := ⟨4, ![2, 8, 1, 3072]⟩
abbrev S2x1x1x3072 : Shape := ⟨4, ![2, 1, 1, 3072]⟩

abbrev nBuf : Space → Nat
  | .hbm => 11
  | .vmem => 11
  | .smem => 0
  | _ => 0

abbrev bufTy : (tb : Table) → Fin (tcTables nBuf tb) → BufTy
  | .hbm, ⟨0, _⟩ => ⟨S2x1024x3072, .fp8e4m3⟩
  | .hbm, ⟨1, _⟩ => ⟨S2x1024, .f32⟩
  | .hbm, ⟨2, _⟩ => ⟨S2x1024x3072, .bf16⟩
  | .hbm, ⟨3, _⟩ => ⟨S2x1024x3072, .fp8e5m2⟩
  | .hbm, ⟨4, _⟩ => ⟨S2x1024, .f32⟩
  | .hbm, ⟨5, _⟩ => ⟨S2x1024x3072, .fp8e5m2⟩
  | .hbm, ⟨6, _⟩ => ⟨S2x1024, .f32⟩
  | .hbm, ⟨7, _⟩ => ⟨S2x3072, .f32⟩
  | .hbm, ⟨8, _⟩ => ⟨S2x1024x3072, .bf16⟩
  | .hbm, ⟨9, _⟩ => ⟨S2x3x3072, .f32⟩
  | .hbm, ⟨10, _⟩ => ⟨S2x8x3x3072, .f32⟩
  | .local _ .vmem, ⟨0, _⟩ => ⟨S2x1024x3072, .fp8e4m3⟩
  | .local _ .vmem, ⟨1, _⟩ => ⟨S2x1024, .f32⟩
  | .local _ .vmem, ⟨2, _⟩ => ⟨S2x1024x3072, .bf16⟩
  | .local _ .vmem, ⟨3, _⟩ => ⟨S2x1024x3072, .fp8e5m2⟩
  | .local _ .vmem, ⟨4, _⟩ => ⟨S2x1024, .f32⟩
  | .local _ .vmem, ⟨5, _⟩ => ⟨S2x1024x3072, .fp8e5m2⟩
  | .local _ .vmem, ⟨6, _⟩ => ⟨S2x1024, .f32⟩
  | .local _ .vmem, ⟨7, _⟩ => ⟨S2x3072, .f32⟩
  | .local _ .vmem, ⟨8, _⟩ => ⟨S2x1024x3072, .bf16⟩
  | .local _ .vmem, ⟨9, _⟩ => ⟨S2x3x3072, .f32⟩
  | .local _ .vmem, ⟨10, _⟩ => ⟨S2x8x3x3072, .f32⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x1024x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x3072 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x3072 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x3x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x8x3x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kf.Runs.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 4 rfl).trans ((hA c 4).trans (V_main_arg0 m c)),
      (Pipeline.RDat.FramePost.arr_in h c 0 rfl).trans ((hA c 0).trans (V_main_arg1 m c)),
      (Pipeline.RDat.FramePost.arr_in h c 5 rfl).trans ((hA c 5).trans (V_main_arg2 m c)),
      (Pipeline.RDat.FramePost.arr_in h c 6 rfl).trans ((hA c 6).trans (V_main_arg3 m c)),
      (Pipeline.RDat.FramePost.arr_in h c 1 rfl).trans ((hA c 1).trans (V_main_arg4 m c)),
      (Pipeline.RDat.FramePost.arr_in h c 7 rfl).trans ((hA c 7).trans (V_main_arg5 m c)),
      (Pipeline.RDat.FramePost.arr_in h c 2 rfl).trans ((hA c 2).trans (V_main_arg6 m c)),
      (Pipeline.RDat.FramePost.arr_in h c 3 rfl).trans ((hA c 3).trans (V_main_arg7 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 8 :=
  (by decide +kernel : ∀ t : Fin grid0.N, cond0_1 (grid0.coords t) ↔ 1 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x3072 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x3072 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x3072 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x3072 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x3x3072 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x128 .f32 := Memref.whole cc0_scratch0
abbrev scM0_1 : Memref sig .tc .vmem S128x128 .f32 := Memref.whole cc0_scratch1
abbrev scM0_2 : Memref sig .tc .vmem S128x128 .f32 := Memref.whole cc0_scratch2
abbrev scM0_3 : Memref sig .tc .vmem S3x8x3072 .f32 := Memref.whole cc0_scratch3
abbrev scM0_4 : Memref sig .tc .vmem S1x3072 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.Kf.RunA.lean ====
module

public import proofs.«01_k».proof.Proof.Kf.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points 0, 8): on whole staging memrefs — the inputs' at their contents,
    the FORGOTTEN outputs' (8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : cond0_0 i) (hc1 : ¬cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_adaln_bwd_eq_skeleton]; unfold cc0_adaln_bwd_skel
    simp only [k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Kf.RunB.lean ====
module

public import proofs.«01_k».proof.Proof.Kf.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken: points 1, 2, … 15: 14 of 16): on whole staging memrefs — the inputs' at their contents,
    the FORGOTTEN outputs' (8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : ¬cond0_0 i) (hc1 : cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_adaln_bwd_eq_skeleton]; unfold cc0_adaln_bwd_skel
    simp only [k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Kf.Frame.lean ====
module

public import proofs.«01_k».proof.Proof.Kf.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 8 = 0
  · by_cases h1 : 1 ≤ t.val % 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · by_cases h1 : 1 ≤ t.val % 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.Tile.lean ====
module

public import proofs.«01_k».proof.Proof.Gen.KernelIdeal.Loops

/-! # One trip of the row loop, as arithmetic on tiles

A trip handles 32 rows of the block, in 24 tiles of 128 columns. This module says in one uniform way, for tile `n`,
what the trip computes; the text of the printed kernel repeats these operations once per tile. -/

@[expose] public section

noncomputable section

namespace Cert.KernelIdeal.Val

open Idealize.ShloMosaic Idealize.ShloMosaic.TcCoe Cert.KernelIdeal.Gen

variable {F : FTy → Type} [FloatOps F] [Named F]

/-- The three-axis offset of tile `n` of trip `k` in a block, as the kernel computes it. -/
def offs (k : Fin k0_t1_loop.trips) : ℕ → (Fin 3 → ℕ)
  | 0 => k0_off3 k
  | 1 => k0_off4 k
  | 2 => k0_off5 k
  | 3 => k0_off6 k
  | 4 => k0_off7 k
  | 5 => k0_off8 k
  | 6 => k0_off9 k
  | 7 => k0_off10 k
  | 8 => k0_off11 k
  | 9 => k0_off12 k
  | 10 => k0_off13 k
  | 11 => k0_off14 k
  | 12 => k0_off15 k
  | 13 => k0_off16 k
  | 14 => k0_off17 k
  | 15 => k0_off18 k
  | 16 => k0_off19 k
  | 17 => k0_off20 k
  | 18 => k0_off21 k
  | 19 => k0_off22 k
  | 20 => k0_off23 k
  | 21 => k0_off24 k
  | 22 => k0_off25 k
  | _ => k0_off26 k

/-- In closed form: row `32 k`, column `128 n`. -/
theorem offs_eq (k : Fin k0_t1_loop.trips) : ∀ n < 24, offs k n = ![0, 32 * k.val, 128 * n] := by
  revert k; decide +kernel

/-- Every tile lies in the block. -/
theorem offs_inb (k : Fin k0_t1_loop.trips) (n : ℕ) : ∀ a, offs k n a + S1x32x128.size a ≤ S1x128x3072.size a := by
  by_cases h : n < 24
  · rw [offs_eq k n h]
    have hk : k.val < 4 := Nat.lt_of_lt_of_le k.isLt k0_t1_abs.2.1
    intro a; fin_cases a <;> simp <;> omega
  · have : offs k n = offs k 23 := by
      obtain ⟨m, rfl⟩ : ∃ m, n = m + 23 := ⟨n - 23, by omega⟩
      rfl
    rw [this]; exact k0_off26_inb k

/-- The offset of tile `n` of accumulator `q`. -/
def accOff (q : Fin 3) (n : ℕ) : Fin 3 → ℕ := ![q.val, 0, 128 * (n % 24)]

/-- The offset of tile `n` in a row of 3072. -/
def rowOff (n : ℕ) : Fin 2 → ℕ := ![0, 128 * (n % 24)]

theorem accOff_inb (q : Fin 3) (n : ℕ) : ∀ a, accOff q n a + S1x8x128.size a ≤ S3x8x3072.size a := by
  have := Nat.mod_lt n (show 24 > 0 by omega)
  intro a; fin_cases a <;> simp [accOff] <;> omega

theorem rowOff_inb (n : ℕ) : ∀ a, rowOff n a + S1x128.size a ≤ S1x3072.size a := by
  have := Nat.mod_lt n (show 24 > 0 by omega)
  intro a; fin_cases a <;> simp [rowOff] <;> omega

/-- The inputs of a trip: the per-row scales of the 32 rows, replicated along the lanes, and the tiles of the four
    blocks and of the row `1 + mod_scale`. -/
structure Grp (F : FTy → Type) where
  sx : Vec F S32x128 .f32
  sy : Vec F S32x128 .f32
  sd : Vec F S32x128 .f32
  x : ℕ → Vec F S1x32x128 .fp8e4m3
  f : ℕ → Vec F S1x32x128 .bf16
  dy : ℕ → Vec F S1x32x128 .fp8e5m2
  dh : ℕ → Vec F S1x32x128 .fp8e5m2
  m : ℕ → Vec F S1x128 .f32

namespace Grp

variable (g : Grp F)

/-- The dequantized `x` of tile `n`. -/
def xAt (n : ℕ) : FVec F S32x128 .f32 :=
  mulf (extf .f32 (shapeCast S32x128 (g.x n) shapeCasts_S1x32x128_S32x128) bitsLt_fp8e4m3_f32) g.sx

/-- The dequantized `dh` of tile `n`. -/
def dhAt (n : ℕ) : FVec F S32x128 .f32 :=
  mulf (extf .f32 (shapeCast S32x128 (g.dh n) shapeCasts_S1x32x128_S32x128) bitsLt_fp8e5m2_f32) g.sd

/-- The dequantized `dy` of tile `n`. -/
def dyAt (n : ℕ) : FVec F S32x128 .f32 :=
  mulf (extf .f32 (shapeCast S32x128 (g.dy n) shapeCasts_S1x32x128_S32x128) bitsLt_fp8e5m2_f32) g.sy

/-- The branch output `f` of tile `n`. -/
def fAt (n : ℕ) : FVec F S32x128 .f32 :=
  extf .f32 (shapeCast S32x128 (g.f n) shapeCasts_S1x32x128_S32x128) bitsLt_bf16_f32

/-- `1 + mod_scale` of tile `n`, along the rows. -/
def mAt (n : ℕ) : FVec F S32x128 .f32 := broadcastTo S32x128 (g.m n) broadcasts_S1x128_S32x128

/-- The sum of the first `n` tiles, left to right. -/
def pre (t : ℕ → FVec F S32x128 .f32) : ℕ → FVec F S32x128 .f32
  | 0 => broadcast S32x128 (FloatOps.ofBits .f32 0#32)
  | n + 1 => addf (pre t n) (t n)

/-- The row mean of 24 tiles: their sum, summed along the lanes, times `1 / 3072`. -/
def rowMean (t : ℕ → FVec F S32x128 .f32) : FVec F S32x1 .f32 :=
  mulf (shapeCast S32x1 (multiReduction .add [1] S32 (pre t 24) 0x00000000#32 reduces_S32x128_S32 (.inl rfl) rfl)
      shapeCasts_S32_S32x1)
    (broadcast S32x1 (Named.named κ "inv_d" 0x39AAAAAB#32))

/-- A per-row value along the lanes. -/
def lanes (v : FVec F S32x1 .f32) : FVec F S32x128 .f32 := broadcastTo S32x128 v broadcasts_S32x1_S32x128

/-- The row mean of `x`. -/
def mu : FVec F S32x1 .f32 := rowMean g.xAt

/-- The row mean of `g = dh * (1 + mod_scale)`. -/
def gMean : FVec F S32x1 .f32 := rowMean fun n => mulf (g.dhAt n) (g.mAt n)

/-- The centered `x` of tile `n`. -/
def xcAt (n : ℕ) : FVec F S32x128 .f32 := subf (g.xAt n) (lanes g.mu)

/-- The reciprocal standard deviation of a row. -/
def rstd : FVec F S32x1 .f32 :=
  rsqrt (addf (rowMean fun n => mulf (g.xcAt n) (g.xcAt n)) (broadcast S32x1 (Scalar.ofBits .f32 0x358637BD#32)))

/-- The row mean of `g * xhat`. -/
def gxMean : FVec F S32x1 .f32 := mulf (rowMean fun n => mulf (mulf (g.dhAt n) (g.mAt n)) (g.xcAt n)) g.rstd

/-- The normalized `x` of tile `n`. -/
def xhatAt (n : ℕ) : FVec F S32x128 .f32 := mulf (g.xcAt n) (lanes g.rstd)

/-- What the trip stores of `dx` in tile `n`. -/
def dxAt (n : ℕ) : FVec F S1x32x128 .bf16 :=
  shapeCast S1x32x128
    (truncf .bf16
      (addf (g.dyAt n)
        (mulf (lanes g.rstd)
          (subf (subf (mulf (g.dhAt n) (g.mAt n)) (lanes g.gMean)) (mulf (g.xhatAt n) (lanes g.gxMean)))))
      bitsLt_bf16_f32)
    shapeCasts_S32x128_S1x32x128

/-- The three rows the modulation gradient sums: shift, scale, gate. -/
def vAt (q : Fin 3) (n : ℕ) : FVec F S32x128 .f32 :=
  match q.val with
  | 0 => g.dhAt n
  | 1 => mulf (g.dhAt n) (g.xhatAt n)
  | _ => mulf (g.dyAt n) (g.fAt n)

/-- What the trip stores in tile `n` of accumulator `q` over the tile `old`: the four groups of eight rows added. -/
def accAt (q : Fin 3) (n : ℕ) (old : Vec F S1x8x128 .f32) : FVec F S1x8x128 .f32 :=
  shapeCast S1x8x128
    (addf (shapeCast S8x128 old shapeCasts_S1x8x128_S8x128)
      (multiReduction .add [0] S8x128 (shapeCast S4x8x128 (g.vAt q n) shapeCasts_S32x128_S4x8x128) 0x00000000#32
        reduces_S4x8x128_S8x128 (.inl rfl) rfl))
    shapeCasts_S8x128_S1x8x128

/-- The stores into the `dx` block, last first. -/
def dxPieces (k : Fin k0_t1_loop.trips) : ℕ → List (View.Piece (Elt F) S1x128x3072 .bf16)
  | 0 => []
  | n + 1 => ⟨Rect.unit (offs k n) S1x32x128.size (offs_inb k n), g.dxAt n⟩ :: dxPieces k n

/-- The stores into the accumulator, last first, over its tiles `old`. -/
def accPieces (old : Fin 3 → ℕ → Vec F S1x8x128 .f32) : ℕ → List (View.Piece (Elt F) S3x8x3072 .f32)
  | 0 => []
  | n + 1 =>
    ⟨Rect.unit (accOff 2 n) S1x8x128.size (accOff_inb 2 n), g.accAt 2 n (old 2 n)⟩ ::
    ⟨Rect.unit (accOff 1 n) S1x8x128.size (accOff_inb 1 n), g.accAt 1 n (old 1 n)⟩ ::
    ⟨Rect.unit (accOff 0 n) S1x8x128.size (accOff_inb 0 n), g.accAt 0 n (old 0 n)⟩ :: accPieces old n

end Grp

end Cert.KernelIdeal.Val

end
-- ==== Proof.Trip.lean ====
module

public import proofs.«01_k».proof.Proof.Tile

/-! # The stores of one trip of the row loop are the tiles of `Tile` -/

@[expose] public section

set_option maxRecDepth 65536

noncomputable section

namespace Cert.KernelIdeal.Val

open Idealize.ShloMosaic Idealize.ShloMosaic.TcCoe Idealize.ShloMosaic.Tactic Cert.KernelIdeal.Gen

variable {F : FTy → Type} [FloatOps F] [Named F]
variable (𝒱 : Variants) (c : Dev nD) (bd : Option 𝒱.V) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (X_arg15 : BufTy.Contents (Elt F) arg15.view.ty) (X_arg17 : BufTy.Contents (Elt F) arg17.view.ty)

/-- What trip `k` reads of the buffers. -/
def grp (arg6 : Memref sig .tc .vmem S1x128x3072 .fp8e4m3) (arg7 : Memref sig .tc .vmem S1x128x3072 .bf16)
    (arg8 : Memref sig .tc .vmem S1x128x3072 .fp8e5m2) (arg9 : Memref sig .tc .vmem S1x128x3072 .fp8e5m2)
    (arg13 arg14 arg15 : Memref sig .tc .vmem S128x128 .f32) (arg17 : Memref sig .tc .vmem S1x3072 .f32)
    (X_arg6 : BufTy.Contents (Elt F) arg6.view.ty) (X_arg7 : BufTy.Contents (Elt F) arg7.view.ty)
    (X_arg8 : BufTy.Contents (Elt F) arg8.view.ty) (X_arg9 : BufTy.Contents (Elt F) arg9.view.ty)
    (X_arg13 : BufTy.Contents (Elt F) arg13.view.ty) (X_arg14 : BufTy.Contents (Elt F) arg14.view.ty)
    (X_arg15 : BufTy.Contents (Elt F) arg15.view.ty) (X_arg17 : BufTy.Contents (Elt F) arg17.view.ty)
    (k : Fin k0_t1_loop.trips) : Grp F where
  sx := arg13.view.readAt (Elt F) (Rect.unit (s := S128x128) (k0_off2 k) S32x128.size (k0_off2_inb k)).toLoadRect X_arg13
  sy := arg14.view.readAt (Elt F) (Rect.unit (s := S128x128) (k0_off2 k) S32x128.size (k0_off2_inb k)).toLoadRect X_arg14
  sd := arg15.view.readAt (Elt F) (Rect.unit (s := S128x128) (k0_off2 k) S32x128.size (k0_off2_inb k)).toLoadRect X_arg15
  x n := arg6.view.readAt (Elt F) (Rect.unit (s := S1x128x3072) (offs k n) S1x32x128.size (offs_inb k n)).toLoadRect X_arg6
  f n := arg7.view.readAt (Elt F) (Rect.unit (s := S1x128x3072) (offs k n) S1x32x128.size (offs_inb k n)).toLoadRect X_arg7
  dy n := arg8.view.readAt (Elt F) (Rect.unit (s := S1x128x3072) (offs k n) S1x32x128.size (offs_inb k n)).toLoadRect X_arg8
  dh n := arg9.view.readAt (Elt F) (Rect.unit (s := S1x128x3072) (offs k n) S1x32x128.size (offs_inb k n)).toLoadRect X_arg9
  m n := arg17.view.readAt (Elt F) (Rect.unit (s := S1x3072) (rowOff n) S1x128.size (rowOff_inb n)).toLoadRect X_arg17

/-- Trip `k`'s stores into the `dx` block and into the accumulator. -/
theorem tripL_eq (k : Fin k0_t1_loop.trips) (f_arg10 : BufTy.Contents (Elt F) arg10.view.ty)
    (f_arg16 : BufTy.Contents (Elt F) arg16.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 k f_arg10 f_arg16
      = ((grp arg6 arg7 arg8 arg9 arg13 arg14 arg15 arg17 X_arg6 X_arg7 X_arg8 X_arg9 X_arg13 X_arg14 X_arg15 X_arg17 k).dxPieces k 24,
         (grp arg6 arg7 arg8 arg9 arg13 arg14 arg15 arg17 X_arg6 X_arg7 X_arg8 X_arg9 X_arg13 X_arg14 X_arg15 X_arg17 k).accPieces
          (fun q n => arg16.view.readAt (Elt F) (Rect.unit (s := S3x8x3072) (accOff q n) S1x8x128.size (accOff_inb q n)).toLoadRect f_arg16) 24) := by
  sl_kernel_rfl

end Cert.KernelIdeal.Val

end
-- ==== Proof.Indep.lean ====
module

public import proofs.«01_k».proof.Proof.Trip

/-! # The row loop's stores do not depend on what the `dx` block held before it -/

@[expose] public section

set_option maxRecDepth 16384

noncomputable section

namespace Cert.KernelIdeal.Val

open Idealize.ShloMosaic Idealize.ShloMosaic.TcCoe Idealize.ShloMosaic.Tactic Cert.KernelIdeal.Gen

variable {F : FTy → Type} [FloatOps F] [Named F]
variable (𝒱 : Variants) (c : Dev nD) (bd : Option 𝒱.V) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg13 : BufTy.Contents (Elt F) arg13.view.ty) (X_arg14 : BufTy.Contents (Elt F) arg14.view.ty) (X_arg15 : BufTy.Contents (Elt F) arg15.view.ty) (X_arg17 : BufTy.Contents (Elt F) arg17.view.ty)

/-- One more trip: its tiles, in front of the earlier ones. -/
theorem pb_succ (G10 : BufTy.Contents (Elt F) arg10.view.ty) (G16 : BufTy.Contents (Elt F) arg16.view.ty)
    (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10 G16 (k.val + 1)
      = ((grp arg6 arg7 arg8 arg9 arg13 arg14 arg15 arg17 X_arg6 X_arg7 X_arg8 X_arg9 X_arg13 X_arg14 X_arg15 X_arg17 k).dxPieces k 24
          ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10 G16 k.val).1,
         (grp arg6 arg7 arg8 arg9 arg13 arg14 arg15 arg17 X_arg6 X_arg7 X_arg8 X_arg9 X_arg13 X_arg14 X_arg15 X_arg17 k).accPieces
          (fun q n => arg16.view.readAt (Elt F) (Rect.unit (s := S3x8x3072) (accOff q n) S1x8x128.size (accOff_inb q n)).toLoadRect
            (arg16.view.writes (Elt F) G16 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10 G16 k.val).2)) 24
          ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10 G16 k.val).2) := by
  rw [pb_k0_t1_succ, tripL_eq]

/-- The stores are the same whatever the `dx` block held. -/
theorem pb_indep (G10 G10' : BufTy.Contents (Elt F) arg10.view.ty) (G16 : BufTy.Contents (Elt F) arg16.view.ty)
    (n : ℕ) (hn : n ≤ k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10 G16 n
      = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10' G16 n := by
  induction n with
  | zero => rfl
  | succ n ih =>
    have e := pb_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10 G16 ⟨n, hn⟩
    have e' := pb_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10' G16 ⟨n, hn⟩
    rw [ih (Nat.le_of_succ_le hn)] at e
    exact e.trans e'.symm

/-- The same, in the form that rewrites. -/
theorem pb_junk {𝒱 : Variants} {c : Dev nD} {bd : Option 𝒱.V} {i : grid0.Coords} {arg2 : Memref sig .tc .vmem S2x1024 .f32} {harg2 : arg2.IsWhole} {arg3 : Memref sig .tc .vmem S2x1024 .f32} {harg3 : arg3.IsWhole} {arg4 : Memref sig .tc .vmem S2x1024 .f32} {harg4 : arg4.IsWhole} {arg5 : Memref sig .tc .vmem S2x3072 .f32} {harg5 : arg5.IsWhole} {arg6 : Memref sig .tc .vmem S1x128x3072 .fp8e4m3} {harg6 : arg6.IsWhole} {arg7 : Memref sig .tc .vmem S1x128x3072 .bf16} {harg7 : arg7.IsWhole} {arg8 : Memref sig .tc .vmem S1x128x3072 .fp8e5m2} {harg8 : arg8.IsWhole} {arg9 : Memref sig .tc .vmem S1x128x3072 .fp8e5m2} {harg9 : arg9.IsWhole} {arg10 : Memref sig .tc .vmem S1x128x3072 .bf16} {harg10 : arg10.IsWhole} {arg11 : Memref sig .tc .vmem S1x3x3072 .f32} {harg11 : arg11.IsWhole} {arg12 : Memref sig .tc .vmem S1x1x3x3072 .f32} {harg12 : arg12.IsWhole} {arg13 : Memref sig .tc .vmem S128x128 .f32} {harg13 : arg13.IsWhole} {arg14 : Memref sig .tc .vmem S128x128 .f32} {harg14 : arg14.IsWhole} {arg15 : Memref sig .tc .vmem S128x128 .f32} {harg15 : arg15.IsWhole} {arg16 : Memref sig .tc .vmem S3x8x3072 .f32} {harg16 : arg16.IsWhole} {arg17 : Memref sig .tc .vmem S1x3072 .f32} {harg17 : arg17.IsWhole} {X_arg6 : BufTy.Contents (Elt F) arg6.view.ty} {X_arg7 : BufTy.Contents (Elt F) arg7.view.ty} {X_arg8 : BufTy.Contents (Elt F) arg8.view.ty} {X_arg9 : BufTy.Contents (Elt F) arg9.view.ty} {X_arg13 : BufTy.Contents (Elt F) arg13.view.ty} {X_arg14 : BufTy.Contents (Elt F) arg14.view.ty} {X_arg15 : BufTy.Contents (Elt F) arg15.view.ty} {X_arg17 : BufTy.Contents (Elt F) arg17.view.ty}
    (G10 : BufTy.Contents (Elt F) arg10.view.ty) {G16 : BufTy.Contents (Elt F) arg16.view.ty} :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 G10 G16 (Scf.trips k0_t1_loop.lb k0_t1_loop.ub k0_t1_loop.st)
      = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg6 X_arg7 X_arg8 X_arg9 X_arg13 X_arg14 X_arg15 X_arg17 arg10.view.junk G16 (Scf.trips k0_t1_loop.lb k0_t1_loop.ub k0_t1_loop.st) :=
  pb_indep _ _ _ _ _ _ _ _ _ _ _ _ _ _ _ _ _ _ _ _ _ _ _ _ _ _ _ _ _ _ _ _ _ _ _ _ _ _ _ _ _ _ _ _ _ _ _ _ le_rfl

end Cert.KernelIdeal.Val

end
-- ==== Proof.Stores.lean ====
module

public import proofs.«01_k».proof.Proof.Indep
public import proofs.«01_k».proof.Proof.Gen.KernelIdeal.Frame.Runs

/-! # What one grid step stores, by name

The scale rows and the modulation row are written to their buffers before the row loop, which then stores the `dx` block
and adds up the accumulator; the two modulation results are taken from the accumulator after it. -/

@[expose] public section

set_option maxRecDepth 16384

noncomputable section

namespace Cert.KernelIdeal.Val

open Idealize.ShloMosaic Idealize.ShloMosaic.TcCoe Idealize.ShloMosaic.Tactic Cert.KernelIdeal.Gen

variable {F : FTy → Type} [FloatOps F] [Named F]
variable (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole)
  (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2)

/-- The `x` scales of the block's rows, one row of equal lanes each. -/
def buf13 : BufTy.Contents (Elt F) arg13.view.ty :=
  arg13.view.writes (Elt F) arg13.view.junk [⟨Rect.unit (s := S128x128) ![0, 0] S128x128.size inb_S128x128_S128x128_0_0,
    k0_pay313 i (View.readAt (Elt F) arg2.view (Rect.unit (s := S2x1024) (k0_off1 i) S2x128.size (k0_off1_inb i)).toLoadRect (harg2.unread x0))⟩]

/-- The `dy` scales. -/
def buf14 : BufTy.Contents (Elt F) arg14.view.ty :=
  arg14.view.writes (Elt F) arg14.view.junk [⟨Rect.unit (s := S128x128) ![0, 0] S128x128.size inb_S128x128_S128x128_0_0,
    k0_pay314 i (View.readAt (Elt F) arg3.view (Rect.unit (s := S2x1024) (k0_off1 i) S2x128.size (k0_off1_inb i)).toLoadRect (harg3.unread x1))⟩]

/-- The `dh` scales. -/
def buf15 : BufTy.Contents (Elt F) arg15.view.ty :=
  arg15.view.writes (Elt F) arg15.view.junk [⟨Rect.unit (s := S128x128) ![0, 0] S128x128.size inb_S128x128_S128x128_0_0,
    k0_pay315 i (View.readAt (Elt F) arg4.view (Rect.unit (s := S2x1024) (k0_off1 i) S2x128.size (k0_off1_inb i)).toLoadRect (harg4.unread x2))⟩]

/-- The modulation scale of the batch, read whole. -/
def mods : Vec F S2x3072 .f32 :=
  View.readAt (Elt F) arg5.view (Rect.unit (s := S2x3072) ![0, 0] S2x3072.size inb_S2x3072_S2x3072_0_0).toLoadRect (harg5.unread x3)

/-- One plus the modulation scale. -/
def buf17 : BufTy.Contents (Elt F) arg17.view.ty :=
  arg17.view.writes (Elt F) arg17.view.junk [⟨Rect.unit (s := S1x3072) ![0, 0] S1x3072.size inb_S1x3072_S1x3072_0_0,
    k0_pay1 (BitVec.ofNat 32 (i 0).val) (mods arg5 harg5 x3) (k0_pay316 (mods arg5 harg5 x3))⟩]

/-- The store that zeroes the accumulator. -/
def zeroPiece : List (View.Piece (Elt F) S3x8x3072 .f32) :=
  [⟨Rect.unit (s := S3x8x3072) ![0, 0, 0] S3x8x3072.size inb_S3x8x3072_S3x8x3072_0_0_0, k0_pay2⟩]

/-- The stores of the first `n` trips of the row loop. -/
def trips (n : ℕ) : List (View.Piece (Elt F) S1x128x3072 .bf16) × List (View.Piece (Elt F) S3x8x3072 .f32) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg6.unread x4) (harg7.unread x5) (harg8.unread x6) (harg9.unread x7) (buf13 i arg2 harg2 arg13 x0) (buf14 i arg3 harg3 arg14 x1) (buf15 i arg4 harg4 arg15 x2) (buf17 i arg5 harg5 arg17 x3) arg10.view.junk (arg16.view.writes (Elt F) arg16.view.junk zeroPiece) n

/-- The accumulator after the loop. -/
def acc : Vec F S3x8x3072 .f32 :=
  arg16.view.readCov ((trips c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (Scf.trips k0_t1_loop.lb k0_t1_loop.ub k0_t1_loop.st)).2 ++ zeroPiece)
    (Rect.unit (s := S3x8x3072) ![0, 0, 0] S3x8x3072.size inb_S3x8x3072_S3x8x3072_0_0_0).toLoadRect

/-- The stores into the `dx` block. -/
def dxStores : List (View.Piece (Elt F) S1x128x3072 .bf16) :=
  (trips c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 (Scf.trips k0_t1_loop.lb k0_t1_loop.ub k0_t1_loop.st)).1

/-- The store into the block of modulation sums. -/
def blkStores : List (View.Piece (Elt F) S1x1x3x3072 .f32) :=
  [⟨Rect.unit (s := S1x1x3x3072) ![0, 0, 0, 0] S1x1x3x3072.size inb_S1x1x3x3072_S1x1x3x3072_0_0_0_0, k0_pay5 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)⟩]

/-- The first step's store into the modulation result. -/
def firstStores : List (View.Piece (Elt F) S1x3x3072 .f32) :=
  [⟨Rect.unit (s := S1x3x3072) ![0, 0, 0] S1x3x3072.size inb_S1x3x3072_S1x3x3072_0_0_0, k0_pay6 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)⟩]

/-- A later step's store: it adds to what the earlier ones left. -/
def laterStores (xo9 : Vec F S1x3x3072 .f32) : List (View.Piece (Elt F) S1x3x3072 .f32) :=
  [⟨Rect.unit (s := S1x3x3072) ![0, 0, 0] S1x3x3072.size inb_S1x3x3072_S1x3x3072_0_0_0, k0_pay7 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)
    (View.readAt (Elt F) arg11.view (Rect.unit (s := S1x3x3072) ![0, 0, 0] S1x3x3072.size inb_S1x3x3072_S1x3x3072_0_0_0).toLoadRect (harg11.unread xo9))⟩]

end Cert.KernelIdeal.Val

end
-- ==== Proof.Ki.RunA.lean ====
module

public import proofs.«01_k».proof.Proof.Gen.KernelIdeal.Frame.Runs
public import proofs.«01_k».proof.Proof.Stores

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : cond0_0 i) (hc1 : ¬cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) :
    Σ' (L8 : List (View.Piece (Elt F) S1x128x3072 .bf16)), Σ' (L9 : List (View.Piece (Elt F) S1x3x3072 .f32)), { L10 : List (View.Piece (Elt F) S1x1x3x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨Val.dxStores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7,
    Val.firstStores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7,
    Val.blkStores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7, fun E K => ?run⟩
  case run =>
    simp only [cc0_adaln_bwd_eq_skeleton]; unfold cc0_adaln_bwd_skel
    simp only [k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    unfold kernelRun0_A.sl.v53
    rw [Val.pb_junk f8]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.Ki.RunB.lean ====
module

public import proofs.«01_k».proof.Proof.Ki.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 15: 14 of 16), WITH the
    proof that on whole staging memrefs — the inputs' at their contents, the outputs it reads before covering (9) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : ¬cond0_0 i) (hc1 : cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (xo9 : Vec F S1x3x3072 .f32) :
    Σ' (L8 : List (View.Piece (Elt F) S1x128x3072 .bf16)), Σ' (L9 : List (View.Piece (Elt F) S1x3x3072 .f32)), { L10 : List (View.Piece (Elt F) S1x1x3x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨Val.dxStores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7,
    Val.laterStores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xo9,
    Val.blkStores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7, fun E K => ?run⟩
  case run =>
    simp only [cc0_adaln_bwd_eq_skeleton]; unfold cc0_adaln_bwd_skel
    simp only [k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | sl_exact hc0 | sl_exact hc1)
    sl_step
    unfold kernelRun0_B.sl.v53
    rw [Val.pb_junk f8]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.Ki.Frame.lean ====
module

public import proofs.«01_k».proof.Proof.Ki.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 8 tile its block (96 stores of `S1x32x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : cond0_0 i) (hc1 : ¬cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (y : S1x128x3072.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).1 S1x32x128.size (by sl_kernel_rfl) y

/-- What case A leaves in output 8's staging buffer: its pieces read back over junk. -/
def out0_A_8 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : cond0_0 i) (hc1 : ¬cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) : Vec F S1x128x3072 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).1)

/-- Case A's pieces for output 9 tile its block (1 store of `S1x3x3072`, checked by the kernel's evaluation: Lib/Ring.lean `Piece.tiledL`, linear in the pieces, through a loop's `@[irreducible]` trip theorem too), so they cover it. -/
theorem cover0_A_9 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : cond0_0 i) (hc1 : ¬cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (y : S1x3x3072.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.1 S1x3x3072.size (by sl_kernel_rfl) y

/-- What case A leaves in output 9's staging buffer: its pieces read back over junk. -/
def out0_A_9 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : cond0_0 i) (hc1 : ¬cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) : Vec F S1x3x3072 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.1)

/-- Case A's pieces for output 10 tile its block (1 store of `S1x1x3x3072`, checked by the kernel's evaluation: Lib/Ring.lean `Piece.tiledL`, linear in the pieces, through a loop's `@[irreducible]` trip theorem too), so they cover it. -/
theorem cover0_A_10 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : cond0_0 i) (hc1 : ¬cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (y : S1x1x3x3072.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.1 S1x1x3x3072.size (by sl_kernel_rfl) y

/-- What case A leaves in output 10's staging buffer: its pieces read back over junk. -/
def out0_A_10 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : cond0_0 i) (hc1 : ¬cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) : Vec F S1x1x3x3072 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7).2.2.1)

/-- Case B's pieces for output 8 tile its block (96 stores of `S1x32x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : ¬cond0_0 i) (hc1 : cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (xo9 : Vec F S1x3x3072 .f32) (y : S1x128x3072.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).1 S1x32x128.size (by sl_kernel_rfl) y

/-- What case B leaves in output 8's staging buffer: its pieces read back over junk. -/
def out0_B_8 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : ¬cond0_0 i) (hc1 : cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (xo9 : Vec F S1x3x3072 .f32) : Vec F S1x128x3072 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).1)

/-- Case B's pieces for output 9 tile its block (1 store of `S1x3x3072`, checked by the kernel's evaluation: Lib/Ring.lean `Piece.tiledL`, linear in the pieces, through a loop's `@[irreducible]` trip theorem too), so they cover it. -/
theorem cover0_B_9 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : ¬cond0_0 i) (hc1 : cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (xo9 : Vec F S1x3x3072 .f32) (y : S1x3x3072.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).2.1 S1x3x3072.size (by sl_kernel_rfl) y

/-- What case B leaves in output 9's staging buffer: its pieces read back over junk. -/
def out0_B_9 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : ¬cond0_0 i) (hc1 : cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (xo9 : Vec F S1x3x3072 .f32) : Vec F S1x3x3072 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).2.1)

/-- Case B's pieces for output 10 tile its block (1 store of `S1x1x3x3072`, checked by the kernel's evaluation: Lib/Ring.lean `Piece.tiledL`, linear in the pieces, through a loop's `@[irreducible]` trip theorem too), so they cover it. -/
theorem cover0_B_10 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : ¬cond0_0 i) (hc1 : cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (xo9 : Vec F S1x3x3072 .f32) (y : S1x1x3x3072.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).2.2.1 S1x1x3x3072.size (by sl_kernel_rfl) y

/-- What case B leaves in output 10's staging buffer: its pieces read back over junk. -/
def out0_B_10 (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole) (hc0 : ¬cond0_0 i) (hc1 : cond0_1 i)
    (x0 : Vec F S2x1024 .f32) (x1 : Vec F S2x1024 .f32) (x2 : Vec F S2x1024 .f32) (x3 : Vec F S2x3072 .f32) (x4 : Vec F S1x128x3072 .fp8e4m3) (x5 : Vec F S1x128x3072 .bf16) (x6 : Vec F S1x128x3072 .fp8e5m2) (x7 : Vec F S1x128x3072 .fp8e5m2) (xo9 : Vec F S1x3x3072 .f32) : Vec F S1x1x3x3072 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x128x3072 .bf16 × Vec F S1x3x3072 .f32 × Vec F S1x1x3x3072 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 8 = 0 then
      if h1 : 1 ≤ (n + 1) % 8 then
        False.elim (by have hN : n + 1 < 16 := lt_of_lt_of_eq hn (show cfg0.N = 16 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : 1 ≤ (n + 1) % 8 then
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1)
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 8 = 0) (h1 : ¬1 ≤ t.val % 8) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : 1 ≤ t.val % 8) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- Output 9's contents CARRY through the points that leave it idle: at such a point, its buffer not fresh, the proof data's
    `after` is the point before's (the case there stores nothing into the window and its term says so; a case that stores
    into it is not idle there by `liveAt0_9_κ`) — the hypothesis of Lib/Pipeline/TableIdle.lean `Dat.before_out_traj`. -/
theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  have hN : t.val < 16 := lt_of_lt_of_eq t.isLt (show cfg0.N = 16 from N_0)
  rw [after0_9, after0_9]
  by_cases h0 : t.val % 8 = 0
  · by_cases h1 : 1 ≤ t.val % 8
    · exfalso; omega
    · rw [liveAt0_9_A t ((hcond0_0 t).mpr h0) (fun h => h1 ((hcond0_1 t).mp h))] at hi
      exact absurd hi Bool.false_ne_true
  · by_cases h1 : 1 ≤ t.val % 8
    · rw [liveAt0_9_B t (fun h => h0 ((hcond0_0 t).mp h)) ((hcond0_1 t).mpr h1)] at hi
      exact absurd hi Bool.false_ne_true
    · exfalso; omega
/-- At a point of case B output 9's current staging buffer holds what the point before left: the buffer is not fresh
    there (`notFresh0_9_B`: stored into since the region's entry or the last write-back, carried through the points that
    leave it idle by `hcarry0_9`; Lib/Pipeline/TableIdle.lean `Dat.before_out_traj`). -/
theorem before0_9_B (c : Dev nD) (t : Fin cfg0.N) (h0 : ¬t.val % 8 = 0) (h1 : 1 ≤ t.val % 8) (d) :
    (dats m 0 c).before 9 t d = (outsAt0 m c (t.val - 1) (Nat.lt_of_le_of_lt (Nat.sub_le _ _) t.isLt)).2.1 := by
  rw [Dat.before_out_traj _ 9 rfl (fun _ _ => rfl) (hcarry0_9 m c) t.val t rfl d,
    if_neg (by rw [notFresh0_9_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 8 = 0
  · by_cases h1 : 1 ≤ t.val % 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h))], after0_9]
      rw [show (dats m 0 c).leavesExact 10 t = owns (c : Thread nD τ) (ms0_10 t) fullShare ((dats m 0 c).after 10 t) from by
      unfold Dat.leavesExact; rw [liveAt0_10 t], after0_10]
      rw [outsAt0_A m c t h0 h1]
      unfold out0_A_8 out0_A_9 out0_A_10; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%e8, H8⟩, ⟨%e9, H9⟩, ⟨%e10, H10⟩, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
  · by_cases h1 : 1 ≤ t.val % 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [liveAt0_10 t], after0_10]
      rw [outsAt0_B m c t h0 h1]
      simp only [before0_9_B m c t h0 h1]
      unfold out0_B_8 out0_B_9 out0_B_10; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, ⟨%e8, H8⟩, ⟨%e9, H9⟩, ⟨%e10, H10⟩, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Ki.Value.lean ====
module

public import proofs.«01_k».proof.Proof.Ki.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 8 = 0) (h1 : ¬1 ≤ t.val % 8) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed8, outsAt0_A m c t h0 h1]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 8 = 0) (h1 : 1 ≤ t.val % 8) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed8, outsAt0_B m c t h0 h1]

/-- The index map sends distinct grid points to distinct block indices (decided over the 16 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x1024x3072.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 8 = 0) (h1 : ¬1 ≤ t.val % 8) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed9, outsAt0_A m c t h0 h1]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 8 = 0) (h1 : 1 ≤ t.val % 8) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed9, outsAt0_B m c t h0 h1]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S2x3x3072.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 8 = 0) (h1 : ¬1 ≤ t.val % 8) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  simp only [flushed10, outsAt0_A m c t h0 h1]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 8 = 0) (h1 : 1 ≤ t.val % 8) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed10, outsAt0_B m c t h0 h1]

/-- The index map sends distinct grid points to distinct block indices (decided over the 16 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S2x8x3x3072.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_2) = (dats m 0 c).arrAt 10 cfg0.N :=
  (h c).1 10

/-- After the frame run, argument `main_arg0` is as launched: input window 4 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- After the frame run, argument `main_arg1` is as launched: input window 0 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- After the frame run, argument `main_arg3` is as launched: input window 6 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 6).trans (((dats m 0 c).arrAt_in 6 rfl _).trans ((A_eq m c 6).trans (V_main_arg3 m c)))

/-- After the frame run, argument `main_arg4` is as launched: input window 1 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 1).trans (((dats m 0 c).arrAt_in 1 rfl _).trans ((A_eq m c 1).trans (V_main_arg4 m c)))

/-- After the frame run, argument `main_arg5` is as launched: input window 7 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 7).trans (((dats m 0 c).arrAt_in 7 rfl _).trans ((A_eq m c 7).trans (V_main_arg5 m c)))

/-- After the frame run, argument `main_arg6` is as launched: input window 2 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 2).trans (((dats m 0 c).arrAt_in 2 rfl _).trans ((A_eq m c 2).trans (V_main_arg6 m c)))

/-- After the frame run, argument `main_arg7` is as launched: input window 3 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 3).trans (((dats m 0 c).arrAt_in 3 rfl _).trans ((A_eq m c 3).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_v0_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Spec.lean ====
module

public import Idealize.ShloMosaic.PureOps.Ideal.Laws

/-! # The backward of one row, over the extended reals

The row's inputs as they enter the formulas, what the branch's backward makes of them, and the one algebraic step
between the two ways of writing it: the mean of `g * xhat`, where the factor `rstd` of `xhat` may be taken inside or
outside the sum. -/

@[expose] public section

noncomputable section

namespace Cert.Spec

open Idealize.ShloMosaic

/-- The variance's offset `1e-6`, as its pattern denotes it. -/
def eps : EReal := Ideal.ofBits .f32 0x358637BD#32

theorem eps_pos : 0 < eps := by
  have h : eps = ((8796093 / 8796093022208 : ℝ) : EReal) := by
    unfold eps
    simp [Ideal.ofBits, Ideal.ieee, -EReal.coe_mul]; norm_num
  rw [h]; exact_mod_cast (by norm_num : (0 : ℝ) < 8796093 / 8796093022208)

/-- `3072.0` denotes the real `3072`. -/
theorem ofBits_3072 : Ideal.ofBits .f32 0x45400000#32 = ((3072 : ℝ) : EReal) := by
  simp [Ideal.ofBits, Ideal.ieee, -EReal.coe_mul]; norm_num

/-- The mean over the 3072 features. -/
def mean (u : Fin 3072 → EReal) : EReal := (∑ d, u d) * ((1 / 3072 : ℝ) : EReal)

/-- Dividing the sum by 3072 is the mean. -/
theorem div_eq_mean (u : Fin 3072 → EReal) : Ideal.div (∑ d, u d) (Ideal.ofBits .f32 0x45400000#32) = mean u := by
  rw [ofBits_3072, Ideal.div_coe (by norm_num : (3072 : ℝ) ≠ 0)]; rfl

/-- A token's rows: the dequantized `x`, `dy`, `dh`, the branch output `f`, and `m = 1 + mod_scale`. -/
structure Row where
  x : Fin 3072 → EReal
  f : Fin 3072 → EReal
  dy : Fin 3072 → EReal
  dh : Fin 3072 → EReal
  m : Fin 3072 → EReal

namespace Row

variable (R : Row)

/-- The centered input. -/
def xc (d : Fin 3072) : EReal := R.x d - mean R.x

/-- The reciprocal standard deviation. -/
def rstd : EReal := Ideal.rsqrt (mean (fun d => R.xc d * R.xc d) + eps)

/-- The normalized input. -/
def xhat (d : Fin 3072) : EReal := R.xc d * R.rstd

/-- The gradient at the normalized input. -/
def g (d : Fin 3072) : EReal := R.dh d * R.m d

/-- The mean of `g * xhat`. -/
def gx : EReal := mean fun d => R.g d * R.xhat d

/-- The row of `dx`. -/
def dx (d : Fin 3072) : EReal := R.dy d + R.rstd * (R.g d - mean R.g - R.xhat d * R.gx)

/-- What the row adds to the three sums of the modulation gradient: shift, scale, gate. -/
def v (q : Fin 3) (d : Fin 3072) : EReal :=
  match q.val with
  | 0 => R.dh d
  | 1 => R.dh d * R.xhat d
  | _ => R.dy d * R.f d

end Row

/-- A square is not negative. -/
theorem mul_self_nonneg (a : EReal) : 0 ≤ a * a := by
  rcases le_total 0 a with h | h
  · exact mul_nonneg h h
  · have h' : 0 ≤ -a := by simpa using EReal.neg_le_neg_iff.mpr h
    have := mul_nonneg h' h'
    rwa [neg_mul_neg] at this

/-- A nonnegative sum has a nonnegative mean. -/
theorem mean_nonneg (u : Fin 3072 → EReal) (h : ∀ d, 0 ≤ u d) : 0 ≤ mean u :=
  mul_nonneg (Finset.sum_nonneg fun d _ => h d) (by exact_mod_cast (by norm_num : (0 : ℝ) ≤ 1 / 3072))

/-- The reciprocal square root of a positive extended real is a nonnegative real. -/
theorem rsqrt_of_pos {z : EReal} (h : 0 < z) : ∃ r : ℝ, 0 ≤ r ∧ Ideal.rsqrt z = (r : EReal) := by
  induction z using EReal.rec with
  | bot => simp at h
  | top => exact ⟨0, le_rfl, rfl⟩
  | coe a =>
    have ha : 0 < a := by exact_mod_cast h
    refine ⟨(Real.sqrt a)⁻¹, inv_nonneg.mpr (Real.sqrt_nonneg a), ?_⟩
    show (if a < 0 then (⊥ : EReal) else if a = 0 then ⊤ else (((Real.sqrt a)⁻¹ : ℝ) : EReal)) = _
    rw [if_neg ha.not_gt, if_neg ha.ne']

/-- So a row's `rstd` is one. -/
theorem Row.rstd_real (R : Row) : ∃ r : ℝ, 0 ≤ r ∧ R.rstd = (r : EReal) :=
  rsqrt_of_pos (lt_of_lt_of_le eps_pos (le_add_of_nonneg_left (mean_nonneg _ fun d => mul_self_nonneg _)))

/-- A nonnegative real factor comes out of a sum. -/
theorem sum_mul_real {ι : Type} (s : Finset ι) (u : ι → EReal) (r : ℝ) (hr : 0 ≤ r) :
    ∑ i ∈ s, u i * (r : EReal) = (∑ i ∈ s, u i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- The mean of `g * xhat` with `rstd` taken outside. -/
theorem Row.gx_eq (R : Row) : mean (fun d => R.g d * R.xc d) * R.rstd = R.gx := by
  obtain ⟨r, hr, e⟩ := R.rstd_real
  have h : R.gx = mean fun d => R.g d * R.xc d * (r : EReal) := by
    simp only [Row.gx, Row.xhat, e, mul_assoc]
  rw [h, e]
  unfold mean
  rw [sum_mul_real _ _ r hr, mul_assoc, mul_assoc, mul_comm ((1 / 3072 : ℝ) : EReal)]

end Cert.Spec

end
-- ==== Proof.TileMath.lean ====
module

public import proofs.«01_k».proof.Proof.Tile
public import proofs.«01_k».proof.Proof.Spec
public import Idealize.ShloMosaic.Lib.ValueLayoutCasts

/-! # A trip's tiles are its rows' values

When the inputs of a trip are the tiles of 32 rows, so are the things it computes: the 24 tiles of a quantity add up,
along the lanes, to the sum over the 3072 features. -/

@[expose] public section

noncomputable section

namespace Cert.KernelIdeal.Val

open Idealize.ShloMosaic Idealize.ShloMosaic.TcCoe Idealize.ShloMosaic.ValueIdx Cert.KernelIdeal.Gen Cert.Spec

/-- The feature at lane `l` of tile `n`. -/
def col (n : ℕ) (l : Fin 128) : Fin 3072 := ⟨128 * (n % 24) + l.val, by have := Nat.mod_lt n (show 24 > 0 by omega); omega⟩

/-- The tiles `t` are those of the rows `u`. -/
def Is (t : ℕ → FVec Ideal S32x128 .f32) (u : Fin 32 → Fin 3072 → EReal) : Prop :=
  ∀ n < 24, ∀ (r : Fin 32) (l : Fin 128), t n (ix2 r l) = u r (col n l)

/-- The sum over the features, by tiles. -/
theorem sum_col (u : Fin 3072 → EReal) : ∑ d, u d = ∑ l : Fin 128, ∑ n ∈ Finset.range 24, u (col n l) := by
  rw [← (finProdFinEquiv : Fin 24 × Fin 128 ≃ Fin 3072).sum_comp u, Fintype.sum_prod_type, Finset.sum_comm]
  refine Finset.sum_congr rfl fun l _ => ?_
  rw [Finset.sum_range]
  refine Finset.sum_congr rfl fun n _ => congrArg u (Fin.ext ?_)
  have := Nat.mod_eq_of_lt n.isLt
  simp [col, this, finProdFinEquiv]; omega

namespace Grp

theorem pre_apply (t : ℕ → FVec Ideal S32x128 .f32) (i : S32x128.Idx) (n : ℕ) :
    pre t n i = ∑ k ∈ Finset.range n, t k i := by
  induction n with
  | zero => exact Ideal.ofBits_zero_f32
  | succ n ih => rw [Finset.sum_range_succ, ← ih]; rfl

/-- The named constant is `1 / 3072`. -/
theorem named_inv_d : Named.named (F := Ideal) (φ := .f32) κ "inv_d" 0x39AAAAAB#32 = ((1 / 3072 : ℝ) : EReal) :=
  IdealRules.named_const.ideal_named_scalar _ _ _ _ rfl

theorem rowMean_apply {t : ℕ → FVec Ideal S32x128 .f32} {u : Fin 32 → Fin 3072 → EReal} (h : Is t u) (r : Fin 32)
    (z : Fin 1) : rowMean t (ix2 r z) = mean (u r) := by
  have e : rowMean t (ix2 r z) = (shapeCast S32x1 (multiReduction .add [1] S32 (pre t 24) 0x00000000#32
      reduces_S32x128_S32 (.inl rfl) rfl) shapeCasts_S32_S32x1 (ix2 r z) : EReal)
        * Named.named (F := Ideal) (φ := .f32) κ "inv_d" 0x39AAAAAB#32 := rfl
  rw [e, named_inv_d, mean]
  refine congrArg (· * ((1 / 3072 : ℝ) : EReal)) ?_
  refine (shapeCast_a_a1_apply _ _ r z).trans ?_
  refine (Ideal.multiReduction_add_single _ _ _ _ _ _).trans ?_
  rw [sum_col]
  refine Finset.sum_congr rfl fun l _ => ?_
  rw [pre_apply]
  refine Finset.sum_congr rfl fun n hn => ?_
  rw [← h n (Finset.mem_range.mp hn) r l]
  refine congrArg (t n) ?_
  funext a; fin_cases a <;> rfl

theorem lanes_apply (v : FVec Ideal S32x1 .f32) (r : Fin 32) (l : Fin 128) : lanes v (ix2 r l) = v (ix2 r 0) :=
  broadcastTo_apply _ _ _ _ (by intro a; fin_cases a <;> rfl)

/-- The trip's inputs are the tiles of the rows `R`. -/
structure Holds (g : Grp Ideal) (R : Fin 32 → Row) : Prop where
  x : Is g.xAt fun r => (R r).x
  f : Is g.fAt fun r => (R r).f
  dy : Is g.dyAt fun r => (R r).dy
  dh : Is g.dhAt fun r => (R r).dh
  m : Is g.mAt fun r => (R r).m

variable {g : Grp Ideal} {R : Fin 32 → Row} (H : g.Holds R)

include H

theorem Holds.gt : Is (fun n => mulf (g.dhAt n) (g.mAt n)) fun r => (R r).g := fun n hn r l => by
  show _ * _ = _
  rw [H.dh n hn, H.m n hn]; rfl

theorem Holds.xc : Is g.xcAt fun r => (R r).xc := fun n hn r l => by
  show _ - lanes _ _ = _
  rw [H.x n hn, lanes_apply, mu, rowMean_apply H.x]; rfl

theorem Holds.rstd (r : Fin 32) (z : Fin 1) : g.rstd (ix2 r z) = (R r).rstd := by
  have hs : Is (fun n => mulf (g.xcAt n) (g.xcAt n)) fun r d => (R r).xc d * (R r).xc d := fun n hn r l => by
    show _ * _ = _
    rw [H.xc n hn]
  have e : g.rstd (ix2 r z)
      = Ideal.rsqrt ((rowMean (fun n => mulf (g.xcAt n) (g.xcAt n)) (ix2 r z) : EReal) + eps) := rfl
  rw [e, rowMean_apply hs]; rfl

theorem Holds.xhat : Is g.xhatAt fun r => (R r).xhat := fun n hn r l => by
  show _ * lanes _ _ = _
  rw [H.xc n hn, lanes_apply, H.rstd]; rfl

theorem Holds.gx (r : Fin 32) (z : Fin 1) : g.gxMean (ix2 r z) = (R r).gx := by
  have hs : Is (fun n => mulf (mulf (g.dhAt n) (g.mAt n)) (g.xcAt n)) fun r d => (R r).g d * (R r).xc d :=
    fun n hn r l => by
      have e := H.gt n hn r l
      dsimp only at e
      show mulf (g.dhAt n) (g.mAt n) _ * _ = _
      rw [H.xc n hn, e]
  have e : g.gxMean (ix2 r z) = (rowMean (fun n => mulf (mulf (g.dhAt n) (g.mAt n)) (g.xcAt n)) (ix2 r z) : EReal)
      * g.rstd (ix2 r z) := rfl
  rw [e, rowMean_apply hs, H.rstd, Row.gx_eq]

theorem Holds.dx {n : ℕ} (hn : n < 24) (z : Fin 1) (r : Fin 32) (l : Fin 128) :
    g.dxAt n (ix3 z r l) = (R r).dx (col n l) := by
  refine (shapeCast_ab_1ab_apply _ _ z r l).trans ?_
  have e := H.gt n hn r l
  dsimp only at e
  show g.dyAt n _ + lanes g.rstd _ * (mulf (g.dhAt n) (g.mAt n) _ - lanes g.gMean _ - g.xhatAt n _ * lanes g.gxMean _) = _
  rw [H.dy n hn, lanes_apply, lanes_apply, lanes_apply, H.rstd, e, H.xhat n hn, H.gx, gMean, rowMean_apply H.gt]
  rfl

theorem Holds.v (q : Fin 3) : Is (g.vAt q) fun r => (R r).v q := fun n hn r l => by
  fin_cases q
  · exact H.dh n hn r l
  · show _ * _ = (R r).dh _ * (R r).xhat _
    rw [H.dh n hn, H.xhat n hn]
  · show _ * _ = (R r).dy _ * (R r).f _
    rw [H.dy n hn, H.f n hn]

theorem Holds.acc (q : Fin 3) {n : ℕ} (hn : n < 24) (old : Vec Ideal S1x8x128 .f32) (z : Fin 1) (s : Fin 8) (l : Fin 128) :
    g.accAt q n old (ix3 z s l)
      = (old (ix3 z s l) : EReal) + ∑ u : Fin 4, (R ⟨8 * u.val + s.val, by omega⟩).v q (col n l) := by
  refine (shapeCast_ab_1ab_apply _ _ z s l).trans ?_
  show shapeCast S8x128 old _ (ix2 s l) + _ = _
  congr 1
  · refine (shapeCast_1ab_ab_apply _ _ s l).trans (congrArg old ?_)
    obtain rfl : z = 0 := Subsingleton.elim _ _
    rfl
  · refine (Ideal.multiReduction_add_single _ _ _ _ _ _).trans ?_
    refine Finset.sum_congr rfl fun u _ => ?_
    have e : (8 * u.val + s.val : ℕ) < 32 := by have : u.val < 4 := u.isLt; omega
    refine Eq.trans (shapeCast_apply _ _ _ (ix2 (⟨8 * u.val + s.val, e⟩ : Fin 32) l) ?_) (H.v q n hn _ l)
    rw [Shape.rowMajor_val_two, Shape.rowMajor_val_three]
    show (8 * u.val + s.val) * 128 + l.val = (u.val * 8 + s.val) * 128 + l.val
    ring

end Grp

end Cert.KernelIdeal.Val

end
-- ==== Proof.Loop.lean ====
module

public import proofs.«01_k».proof.Proof.TileMath

/-! # The row loop: what its trips leave in the `dx` block and in the accumulator

Each trip stores 32 rows of `dx`, and adds to the three accumulators, at each of their eight sublanes, the trip's rows
of that sublane. -/

@[expose] public section

noncomputable section

namespace Cert.KernelIdeal.Val

open Idealize.ShloMosaic Idealize.ShloMosaic.TcCoe Idealize.ShloMosaic.ValueIdx Cert.KernelIdeal.Gen Cert.Spec

/-- A view's contents after stores that all take their values from one function, where one of them covers. -/
theorem read_writes_of_pieces {sp : Space} {s : Shape} {e : EltTy} (v : View sig .tc sp s e)
    (f : v.ty.Contents (Elt Ideal)) (G : s.Idx → Elt Ideal e) (L : List (View.Piece (Elt Ideal) s e))
    (hL : ∀ p ∈ L, ∀ x, p.2 x = G (p.1.emb x)) (y : s.Idx) (hy : ∃ p ∈ L, y ∈ p.1.set) :
    v.read (Elt Ideal) (v.writes (Elt Ideal) f L) y = G y :=
  (View.read_writes_apply_eq_canon v f y L hy).trans (View.canon_apply_of_pieces G L hL y hy)

namespace Grp

variable (g : Grp Ideal)

/-- Every store into the `dx` block is some tile's. -/
theorem mem_dxPieces (k : Fin k0_t1_loop.trips) (N : ℕ) (p : View.Piece (Elt Ideal) S1x128x3072 .bf16)
    (h : p ∈ g.dxPieces k N) :
    ∃ n < N, p = ⟨Rect.unit (offs k n) S1x32x128.size (offs_inb k n), g.dxAt n⟩ := by
  induction N with
  | zero => exact absurd h List.not_mem_nil
  | succ N ih =>
    rcases List.mem_cons.mp h with rfl | h
    · exact ⟨N, N.lt_succ_self, rfl⟩
    · obtain ⟨n, hn, e⟩ := ih h
      exact ⟨n, hn.trans N.lt_succ_self, e⟩

variable (old : Fin 3 → ℕ → Vec Ideal S1x8x128 .f32)

/-- Every store into the accumulator is some tile's. -/
theorem mem_accPieces (N : ℕ) (p : View.Piece (Elt Ideal) S3x8x3072 .f32) (h : p ∈ g.accPieces old N) :
    ∃ q, ∃ n < N, p = ⟨Rect.unit (accOff q n) S1x8x128.size (accOff_inb q n), g.accAt q n (old q n)⟩ := by
  induction N with
  | zero => exact absurd h List.not_mem_nil
  | succ N ih =>
    rcases List.mem_cons.mp h with rfl | h
    · exact ⟨2, N, N.lt_succ_self, rfl⟩
    rcases List.mem_cons.mp h with rfl | h
    · exact ⟨1, N, N.lt_succ_self, rfl⟩
    rcases List.mem_cons.mp h with rfl | h
    · exact ⟨0, N, N.lt_succ_self, rfl⟩
    · obtain ⟨q, n, hn, e⟩ := ih h
      exact ⟨q, n, hn.trans N.lt_succ_self, e⟩

/-- And every tile is stored. -/
theorem accPieces_mem (q : Fin 3) {n N : ℕ} (hn : n < N) :
    (⟨Rect.unit (accOff q n) S1x8x128.size (accOff_inb q n), g.accAt q n (old q n)⟩ :
      View.Piece (Elt Ideal) S3x8x3072 .f32) ∈ g.accPieces old N := by
  induction N with
  | zero => omega
  | succ N ih =>
    rcases Nat.lt_succ_iff_lt_or_eq.mp hn with h | rfl
    · exact List.mem_cons_of_mem _ (List.mem_cons_of_mem _ (List.mem_cons_of_mem _ (ih h)))
    · fin_cases q
      · exact List.mem_cons_of_mem _ (List.mem_cons_of_mem _ List.mem_cons_self)
      · exact List.mem_cons_of_mem _ List.mem_cons_self
      · exact List.mem_cons_self

/-- So the stores cover the accumulator. -/
theorem accPieces_cover (y : S3x8x3072.Idx) : ∃ p ∈ g.accPieces old 24, y ∈ p.1.set := by
  have h2 : (y 2).val < 3072 := (y 2).isLt
  have hn : (y 2).val / 128 < 24 := by omega
  refine ⟨_, g.accPieces_mem old (y 0) hn, ?_⟩
  rw [← Rect.map_emb_univ, Finset.mem_map]
  refine ⟨ix3 (0 : Fin 1) (y 1) (⟨(y 2).val % 128, by omega⟩ : Fin 128), Finset.mem_univ _, ?_⟩
  funext a
  apply Fin.ext
  rw [Rect.emb_apply]
  have := Nat.mod_eq_of_lt hn
  fin_cases a
  · show (y 0).val + 1 * 0 = _; simp
  · show 0 + 1 * (y 1).val = _; simp
  · show 128 * ((y 2).val / 128 % 24) + 1 * ((y 2).val % 128) = _
    simp only [this]; show _ = (y 2).val; omega

end Grp

/-- The trips of the loop. -/
theorem trips_eq : k0_t1_loop.trips = 4 := by decide +kernel

section Steps

variable (g : Fin k0_t1_loop.trips → Grp Ideal) (R : ℕ → Row)
  (H : ∀ k : Fin k0_t1_loop.trips, (g k).Holds fun r => R (32 * k.val + r.val))
  (s : ℕ → List (View.Piece (Elt Ideal) S1x128x3072 .bf16) × List (View.Piece (Elt Ideal) S3x8x3072 .f32))
  (s0 : s 0 = ([], []))

include H s0

/-- The stores into the `dx` block hold the rows of `dx`. -/
theorem steps_dx (hs : ∀ k : Fin k0_t1_loop.trips, (s (k.val + 1)).1 = (g k).dxPieces k 24 ++ (s k.val).1) :
    ∀ n ≤ k0_t1_loop.trips, ∀ p ∈ (s n).1, ∀ x, p.2 x = (R (p.1.emb x 1).val).dx (p.1.emb x 2) := by
  intro n
  induction n with
  | zero => intro _ p hp; rw [s0] at hp; exact absurd hp List.not_mem_nil
  | succ n ih =>
    intro hn p hp
    rw [hs ⟨n, hn⟩, List.mem_append] at hp
    rcases hp with hp | hp
    · obtain ⟨m, hm, rfl⟩ := (g ⟨n, hn⟩).mem_dxPieces _ _ _ hp
      intro x
      obtain ⟨z, r, l, rfl⟩ : ∃ (z : Fin 1) (r : Fin 32) (l : Fin 128), x = ix3 z r l :=
        ⟨x 0, x 1, x 2, by funext a; fin_cases a <;> rfl⟩
      refine ((H ⟨n, hn⟩).dx hm z r l).trans ?_
      have e := offs_eq ⟨n, hn⟩ m hm
      have e1 : ((Rect.unit (s := S1x128x3072) (offs ⟨n, hn⟩ m) S1x32x128.size (offs_inb ⟨n, hn⟩ m)).emb (ix3 z r l) 1).val
          = 32 * n + r.val := by
        rw [Rect.emb_apply]
        show offs ⟨n, hn⟩ m 1 + 1 * r.val = _
        rw [e]; simp
      have e2 : (Rect.unit (s := S1x128x3072) (offs ⟨n, hn⟩ m) S1x32x128.size (offs_inb ⟨n, hn⟩ m)).emb (ix3 z r l) 2
          = col m l := by
        apply Fin.ext
        rw [Rect.emb_apply]
        show offs ⟨n, hn⟩ m 2 + 1 * l.val = 128 * (m % 24) + l.val
        rw [e, Nat.mod_eq_of_lt hm]; simp
      dsimp only
      rw [e1, e2]
    · exact ih (Nat.le_of_succ_le hn) p hp

variable (v : View sig .tc .vmem S3x8x3072 .f32) (G : v.ty.Contents (Elt Ideal))

/-- The accumulator holds the sums over the rows of the trips so far. -/
theorem steps_acc (hG : ∀ y, v.read (Elt Ideal) G y = (0 : EReal))
    (hs : ∀ k : Fin k0_t1_loop.trips, (s (k.val + 1)).2
      = (g k).accPieces (fun q n => v.readAt (Elt Ideal)
          (Rect.unit (s := S3x8x3072) (accOff q n) S1x8x128.size (accOff_inb q n)).toLoadRect
          (v.writes (Elt Ideal) G (s k.val).2)) 24 ++ (s k.val).2) :
    ∀ n ≤ k0_t1_loop.trips, ∀ y : S3x8x3072.Idx, v.read (Elt Ideal) (v.writes (Elt Ideal) G (s n).2) y
      = ∑ k ∈ Finset.range n, ∑ u : Fin 4, (R (32 * k + (8 * u.val + (y 1).val))).v (y 0) (y 2) := by
  intro n
  induction n with
  | zero => intro _ y; rw [s0, Finset.range_zero, Finset.sum_empty]; exact hG y
  | succ n ih =>
    intro hn y
    rw [hs ⟨n, hn⟩, View.writes_append]
    refine read_writes_of_pieces v _ (fun y => ∑ k ∈ Finset.range (n + 1), ∑ u : Fin 4,
      (R (32 * k + (8 * u.val + (y 1).val))).v (y 0) (y 2)) _ ?_ y (Grp.accPieces_cover _ _ y)
    intro p hp x
    obtain ⟨q, m, hm, rfl⟩ := Grp.mem_accPieces _ _ _ _ hp
    obtain ⟨z, r, l, rfl⟩ : ∃ (z : Fin 1) (r : Fin 8) (l : Fin 128), x = ix3 z r l :=
      ⟨x 0, x 1, x 2, by funext a; fin_cases a <;> rfl⟩
    have e : (Rect.unit (s := S3x8x3072) (accOff q m) S1x8x128.size (accOff_inb q m)).emb (ix3 z r l)
        = ix3 q r (col m l) := by
      funext a
      apply Fin.ext
      rw [Rect.emb_apply]
      fin_cases a
      · show q.val + 1 * z.val = q.val; omega
      · show 0 + 1 * r.val = r.val; omega
      · show 128 * (m % 24) + 1 * l.val = 128 * (m % 24) + l.val; omega
    refine ((H ⟨n, hn⟩).acc q hm _ z r l).trans ?_
    dsimp only
    rw [View.readAt_apply]
    rw [show (Rect.unit (s := S3x8x3072) (accOff q m) S1x8x128.size (accOff_inb q m)).toLoadRect.idx (ix3 z r l)
        = ix3 q r (col m l) from e, ih (Nat.le_of_succ_le hn), e, Finset.sum_range_succ]

end Steps

end Cert.KernelIdeal.Val

end
-- ==== Proof.Rows.lean ====
module

public import proofs.«01_k».proof.Proof.Spec
public import Idealize.ShloMosaic.Lib.ValueIdx

/-! # The three results, token by token, as functions of the eight arguments -/

@[expose] public section

noncomputable section

namespace Cert.Spec

open Idealize.ShloMosaic Idealize.ShloMosaic.ValueIdx

/-- Token `r` of block `j`. -/
def tok (j : Fin 8) (r : Fin 128) : Fin 1024 := ⟨128 * j.val + r.val, by omega⟩

/-- The eight arguments, over the extended reals. -/
structure Args where
  x : (⟨3, ![2, 1024, 3072]⟩ : Shape).Idx → EReal
  xs : (⟨2, ![2, 1024]⟩ : Shape).Idx → EReal
  f : (⟨3, ![2, 1024, 3072]⟩ : Shape).Idx → EReal
  dy : (⟨3, ![2, 1024, 3072]⟩ : Shape).Idx → EReal
  dys : (⟨2, ![2, 1024]⟩ : Shape).Idx → EReal
  dh : (⟨3, ![2, 1024, 3072]⟩ : Shape).Idx → EReal
  dhs : (⟨2, ![2, 1024]⟩ : Shape).Idx → EReal
  ms : (⟨2, ![2, 3072]⟩ : Shape).Idx → EReal

namespace Args

variable (A : Args)

/-- The row of token `s` of batch `b`: codes times scales, and `1 + mod_scale`. -/
def row (b : Fin 2) (s : Fin 1024) : Row where
  x d := A.x (ix3 b s d) * A.xs (ix2 b s)
  f d := A.f (ix3 b s d)
  dy d := A.dy (ix3 b s d) * A.dys (ix2 b s)
  dh d := A.dh (ix3 b s d) * A.dhs (ix2 b s)
  m d := Ideal.ofBits .f32 0x3F800000#32 + A.ms (ix2 b d)

/-- The gradient at the input. -/
def dx (b : Fin 2) (s : Fin 1024) (d : Fin 3072) : EReal := (A.row b s).dx d

/-- The modulation gradient of one block of 128 tokens. -/
def blk (b : Fin 2) (j : Fin 8) (q : Fin 3) (d : Fin 3072) : EReal := ∑ r : Fin 128, (A.row b (tok j r)).v q d

/-- The modulation gradient. -/
def dmod (b : Fin 2) (q : Fin 3) (d : Fin 3072) : EReal := ∑ j : Fin 8, A.blk b j q d

end Args

end Cert.Spec

end
-- ==== Proof.Block.lean ====
module

public import proofs.«01_k».proof.Proof.Loop
public import proofs.«01_k».proof.Proof.Trip
public import proofs.«01_k».proof.Proof.Rows

/-! # One grid point: the rows of its block

What the point stores in its scratch buffers, what a trip reads of the buffers, and the sum of the accumulator over its
eight sublanes. -/

@[expose] public section

noncomputable section

namespace Cert.KernelIdeal.Val

open Idealize.ShloMosaic Idealize.ShloMosaic.TcCoe Idealize.ShloMosaic.ValueIdx Cert.KernelIdeal.Gen Cert.Spec

/-- The batch and the block of a grid point. -/
def bOf (i : grid0.Coords) : Fin 2 := i 0
def jOf (i : grid0.Coords) : Fin 8 := i 1

/-- Where the point's scales lie. -/
theorem off1_eq : ∀ i : grid0.Coords, k0_off1 i = ![0, 128 * (jOf i).val] := by decide +kernel

/-- Selecting row 1 of two when the batch is 1, else row 0, is selecting the batch's row. -/
theorem select_row {n : ℕ} (i : grid0.Coords) (v : (⟨2, ![2, n]⟩ : Shape).Idx → EReal) (h1 h0)
    (z : Fin 1) (d : Fin n) :
    Scalar.select (Scalar.cmpi .eq (BitVec.ofNat 32 (i 0).val) 1#32)
      (extractStridedSlice ⟨2, ![1, n]⟩ ![1, 0] v h1) (extractStridedSlice ⟨2, ![1, n]⟩ ![0, 0] v h0) (ix2 z d)
      = v (ix2 (bOf i) d) := by
  have hz : z = 0 := Subsingleton.elim _ _
  subst hz
  have hb : bOf i = 0 ∨ bOf i = 1 := by
    have := (bOf i).isLt
    rcases (by omega : (bOf i).val = 0 ∨ (bOf i).val = 1) with h | h
    · exact .inl (Fin.ext h)
    · exact .inr (Fin.ext h)
  rcases hb with h | h
  · have e : (i 0).val = 0 := congrArg Fin.val h
    rw [e, h]
    refine congrArg v ?_
    funext a; fin_cases a <;> apply Fin.ext <;> simp [ix2]
  · have e : (i 0).val = 1 := congrArg Fin.val h
    rw [e, h]
    refine congrArg v ?_
    funext a; fin_cases a <;> apply Fin.ext <;> simp [ix2]

/-- The scratch scales: row `r` holds its token's scale in every lane. -/
theorem scale_apply (i : grid0.Coords) (v : Vec Ideal S2x128 .f32) (r l : Fin 128) :
    k0_pay313 i v (ix2 r l) = v (ix2 (bOf i) r) := by
  have e : k0_pay313 i v = shapeCast S128x128 (transpose S128x128 [1, 0] (broadcastTo S128x128
      (shapeCast S1x128 (Scalar.select (Scalar.cmpi .eq (BitVec.ofNat 32 (i 0).val) 1#32)
        (extractStridedSlice S1x128 ![1, 0] v slices_S2x128_o1_0_S1x128)
        (extractStridedSlice S1x128 ![0, 0] v slices_S2x128_o0_0_S1x128)) shapeCasts_S1x128_S1x128)
      broadcasts_S1x128_S128x128) transposes_S128x128_p1_0_S128x128) shapeCasts_S128x128_S128x128 := rfl
  rw [e]
  refine (shapeCast_apply _ _ _ (ix2 r l) rfl).trans ?_
  refine (transpose_ix2_apply _ _ r l).trans ?_
  refine (broadcastTo_apply _ _ _ (ix2 0 r) (by intro a; fin_cases a <;> rfl)).trans ?_
  refine (shapeCast_apply _ _ _ (ix2 0 r) rfl).trans ?_
  exact select_row i v _ _ 0 r

/-- The scratch row `1 + mod_scale`. -/
theorem m1_apply (i : grid0.Coords) (v : Vec Ideal S2x3072 .f32) (z : Fin 1) (d : Fin 3072) :
    k0_pay1 (BitVec.ofNat 32 (i 0).val) v (k0_pay316 v) (ix2 z d)
      = (Ideal.ofBits .f32 0x3F800000#32 + v (ix2 (bOf i) d) : EReal) := by
  have e : k0_pay1 (BitVec.ofNat 32 (i 0).val) v (k0_pay316 v) = shapeCast S1x3072
      (addf (broadcast S1x3072 (Scalar.ofBits .f32 0x3F800000#32))
        (Scalar.select (Scalar.cmpi .eq (BitVec.ofNat 32 (i 0).val) 1#32)
          (extractStridedSlice S1x3072 ![1, 0] v slices_S2x3072_o1_0_S1x3072)
          (extractStridedSlice S1x3072 ![0, 0] v slices_S2x3072_o0_0_S1x3072) : FVec Ideal S1x3072 .f32))
      shapeCasts_S1x3072_S1x3072 := rfl
  rw [e]
  refine (shapeCast_apply _ _ _ (ix2 z d) rfl).trans ?_
  exact congrArg (Ideal.ofBits .f32 0x3F800000#32 + ·) (select_row i v _ _ z d)

/-- The accumulator starts at zero. -/
theorem zero_apply (y : S3x8x3072.Idx) : (k0_pay2 (F := Ideal)) y = (0 : EReal) :=
  (shapeCast_apply (broadcast S3x8x3072 (Scalar.ofBits (F := Ideal) .f32 0x00000000#32)) shapeCasts_S3x8x3072_S3x8x3072
    y y rfl).trans Ideal.ofBits_zero_f32

/-- The accumulator summed over its sublanes. -/
theorem sublanes_apply (v : Vec Ideal S3x8x3072 .f32) (q : Fin 3) (d : Fin 3072) :
    k0_pay4 v (ix2 q d) = (∑ s : Fin 8, v (ix3 q s d) : EReal) := by
  refine (Ideal.multiReduction_add_single (φ := .f32) v 0x00000000#32 reduces_S3x8x3072_S3x3072 (.inl rfl) rfl
    (ix2 q d)).trans ?_
  refine Finset.sum_congr rfl fun s _ => congrArg v ?_
  funext a; fin_cases a <;> rfl

/-- Sublanes, trips and groups of eight rows together run through the 128 rows. -/
theorem sum_rows (f : ℕ → EReal) :
    ∑ s : Fin 8, ∑ k ∈ Finset.range 4, ∑ u : Fin 4, f (32 * k + (8 * u.val + s.val)) = ∑ r : Fin 128, f r.val := by
  rw [← (finProdFinEquiv : Fin 16 × Fin 8 ≃ Fin 128).sum_comp fun r => f r.val, Fintype.sum_prod_type, Finset.sum_comm]
  rw [← (finProdFinEquiv : Fin 4 × Fin 4 ≃ Fin 16).sum_comp, Fintype.sum_prod_type, Finset.sum_range]
  refine Finset.sum_congr rfl fun k _ => ?_
  rw [Finset.sum_comm]
  refine Finset.sum_congr rfl fun u _ => Finset.sum_congr rfl fun s _ => congrArg f ?_
  simp [finProdFinEquiv]; omega

/-- Row `n` of a block. -/
def blkRow (A : Args) (i : grid0.Coords) (n : ℕ) : Row :=
  A.row (bOf i) (tok (jOf i) ⟨n % 128, Nat.mod_lt _ (by omega)⟩)

theorem blkRow_val (A : Args) (i : grid0.Coords) (r : Fin 128) : blkRow A i r.val = A.row (bOf i) (tok (jOf i) r) := by
  unfold blkRow
  congr 2
  exact Fin.ext (Nat.mod_eq_of_lt r.isLt)

section Trips

variable (A : Args) (i : grid0.Coords)
  (arg6 : Memref sig .tc .vmem S1x128x3072 .fp8e4m3) (arg7 : Memref sig .tc .vmem S1x128x3072 .bf16)
  (arg8 : Memref sig .tc .vmem S1x128x3072 .fp8e5m2) (arg9 : Memref sig .tc .vmem S1x128x3072 .fp8e5m2)
  (arg13 arg14 arg15 : Memref sig .tc .vmem S128x128 .f32) (arg17 : Memref sig .tc .vmem S1x3072 .f32)
  (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty)
  (X13 : BufTy.Contents (Elt Ideal) arg13.view.ty) (X14 : BufTy.Contents (Elt Ideal) arg14.view.ty)
  (X15 : BufTy.Contents (Elt Ideal) arg15.view.ty) (X17 : BufTy.Contents (Elt Ideal) arg17.view.ty)

/-- The buffers of a grid point: the blocks of its 128 tokens, their scales, and `1 + mod_scale`. -/
structure Bufs : Prop where
  x : ∀ r d, arg6.view.read (Elt Ideal) X6 (ix3 0 r d) = A.x (ix3 (bOf i) (tok (jOf i) r) d)
  f : ∀ r d, arg7.view.read (Elt Ideal) X7 (ix3 0 r d) = A.f (ix3 (bOf i) (tok (jOf i) r) d)
  dy : ∀ r d, arg8.view.read (Elt Ideal) X8 (ix3 0 r d) = A.dy (ix3 (bOf i) (tok (jOf i) r) d)
  dh : ∀ r d, arg9.view.read (Elt Ideal) X9 (ix3 0 r d) = A.dh (ix3 (bOf i) (tok (jOf i) r) d)
  xs : ∀ r l, arg13.view.read (Elt Ideal) X13 (ix2 r l) = A.xs (ix2 (bOf i) (tok (jOf i) r))
  dys : ∀ r l, arg14.view.read (Elt Ideal) X14 (ix2 r l) = A.dys (ix2 (bOf i) (tok (jOf i) r))
  dhs : ∀ r l, arg15.view.read (Elt Ideal) X15 (ix2 r l) = A.dhs (ix2 (bOf i) (tok (jOf i) r))
  m : ∀ d, arg17.view.read (Elt Ideal) X17 (ix2 0 d)
    = (Ideal.ofBits .f32 0x3F800000#32 + A.ms (ix2 (bOf i) d) : EReal)

/-- The token of row `r` of trip `k`. -/
def rowAt (k : Fin k0_t1_loop.trips) (r : Fin 32) : Fin 128 :=
  ⟨(32 * k.val + r.val) % 128, Nat.mod_lt _ (by omega)⟩

theorem rowAt_val (k : Fin k0_t1_loop.trips) (r : Fin 32) : (rowAt k r).val = 32 * k.val + r.val := by
  have hk : k.val < 4 := Nat.lt_of_lt_of_le k.isLt k0_t1_abs.2.1
  exact Nat.mod_eq_of_lt (by omega)

/-- A tile of a block, read. -/
theorem tile_read {e : EltTy} (arg : Memref sig .tc .vmem S1x128x3072 e) (X : BufTy.Contents (Elt Ideal) arg.view.ty)
    (k : Fin k0_t1_loop.trips) (n : ℕ) (hn : n < 24) (h) (r : Fin 32) (l : Fin 128) :
    shapeCast S32x128 (arg.view.readAt (Elt Ideal)
      (Rect.unit (s := S1x128x3072) (offs k n) S1x32x128.size (offs_inb k n)).toLoadRect X) h (ix2 r l)
      = arg.view.read (Elt Ideal) X (ix3 0 (rowAt k r) (col n l)) := by
  refine (shapeCast_1ab_ab_apply _ _ r l).trans ?_
  rw [View.readAt_apply]
  refine congrArg _ ?_
  show (Rect.unit (s := S1x128x3072) (offs k n) S1x32x128.size (offs_inb k n)).emb (ix3 0 r l) = _
  have e := offs_eq k n hn
  have hr := rowAt_val k r
  funext a
  apply Fin.ext
  rw [Rect.emb_apply]
  fin_cases a
  · show offs k n 0 + 1 * 0 = 0
    rw [e]; rfl
  · show offs k n 1 + 1 * r.val = (rowAt k r).val
    rw [e, hr]; simp
  · show offs k n 2 + 1 * l.val = 128 * (n % 24) + l.val
    rw [e, Nat.mod_eq_of_lt hn]; simp

/-- A trip's scales, read. -/
theorem scale_read (arg : Memref sig .tc .vmem S128x128 .f32) (X : BufTy.Contents (Elt Ideal) arg.view.ty)
    (k : Fin k0_t1_loop.trips) (r : Fin 32) (l : Fin 128) :
    arg.view.readAt (Elt Ideal) (Rect.unit (s := S128x128) (k0_off2 k) S32x128.size (k0_off2_inb k)).toLoadRect X (ix2 r l)
      = arg.view.read (Elt Ideal) X (ix2 (rowAt k r) l) := by
  rw [View.readAt_apply]
  refine congrArg _ ?_
  show (Rect.unit (s := S128x128) (k0_off2 k) S32x128.size (k0_off2_inb k)).emb (ix2 r l) = _
  have e := k0_off2_eq k
  have hr := rowAt_val k r
  funext a
  apply Fin.ext
  rw [Rect.emb_apply]
  fin_cases a
  · show k0_off2 k 0 + 1 * r.val = (rowAt k r).val
    rw [e, hr]; simp
  · show k0_off2 k 1 + 1 * l.val = l.val
    rw [e]; simp

/-- A tile of the row `1 + mod_scale`, read. -/
theorem row_read (arg : Memref sig .tc .vmem S1x3072 .f32) (X : BufTy.Contents (Elt Ideal) arg.view.ty)
    (n : ℕ) (l : Fin 128) :
    arg.view.readAt (Elt Ideal) (Rect.unit (s := S1x3072) (rowOff n) S1x128.size (rowOff_inb n)).toLoadRect X (ix2 0 l)
      = arg.view.read (Elt Ideal) X (ix2 0 (col n l)) := by
  rw [View.readAt_apply]
  refine congrArg _ ?_
  show (Rect.unit (s := S1x3072) (rowOff n) S1x128.size (rowOff_inb n)).emb (ix2 0 l) = _
  funext a
  apply Fin.ext
  rw [Rect.emb_apply]
  fin_cases a
  · rfl
  · show 128 * (n % 24) + 1 * l.val = 128 * (n % 24) + l.val; omega

/-- So each trip reads the tiles of its rows. -/
theorem Bufs.holds (B : Bufs A i arg6 arg7 arg8 arg9 arg13 arg14 arg15 arg17 X6 X7 X8 X9 X13 X14 X15 X17)
    (k : Fin k0_t1_loop.trips) :
    (grp arg6 arg7 arg8 arg9 arg13 arg14 arg15 arg17 X6 X7 X8 X9 X13 X14 X15 X17 k).Holds
      fun r => blkRow A i (32 * k.val + r.val) where
  x n hn r l := by
    refine (congrArg₂ (fun a b : EReal => a * b) (tile_read arg6 X6 k n hn _ r l) (scale_read arg13 X13 k r l)).trans ?_
    exact congrArg₂ (fun a b : EReal => a * b) (B.x _ _) (B.xs _ _)
  f n hn r l := (tile_read arg7 X7 k n hn _ r l).trans (B.f _ _)
  dy n hn r l := by
    refine (congrArg₂ (fun a b : EReal => a * b) (tile_read arg8 X8 k n hn _ r l) (scale_read arg14 X14 k r l)).trans ?_
    exact congrArg₂ (fun a b : EReal => a * b) (B.dy _ _) (B.dys _ _)
  dh n hn r l := by
    refine (congrArg₂ (fun a b : EReal => a * b) (tile_read arg9 X9 k n hn _ r l) (scale_read arg15 X15 k r l)).trans ?_
    exact congrArg₂ (fun a b : EReal => a * b) (B.dh _ _) (B.dhs _ _)
  m n hn r l := by
    refine (broadcastTo_apply _ _ _ (ix2 0 l) (by intro a; fin_cases a <;> rfl)).trans ?_
    exact (row_read arg17 X17 n l).trans (B.m _)

end Trips

end Cert.KernelIdeal.Val

end
-- ==== Proof.Point.lean ====
module

public import proofs.«01_k».proof.Proof.Block
public import proofs.«01_k».proof.Proof.Stores

/-! # What one grid step leaves in its output blocks

The step's input blocks hold the arguments of its 128 tokens; its `dx` block then holds their rows of `dx`, and what it
stores into the modulation results is the sum over those tokens (added, after the first step, to what was there). -/

@[expose] public section

set_option maxRecDepth 16384

noncomputable section

namespace Cert.KernelIdeal.Val

open Idealize.ShloMosaic Idealize.ShloMosaic.TcCoe Idealize.ShloMosaic.ValueIdx Cert.KernelIdeal.Gen Cert.Spec

/-- The whole rectangle's places are the buffer's. -/
theorem whole_emb {s : Shape} (off : Fin s.rank → ℕ) (inb) (h : ∀ a, off a = 0) (y : s.Idx) :
    (Rect.unit (s := s) off s.size inb).emb y = y := by
  funext a
  apply Fin.ext
  rw [Rect.emb_apply]
  show off a + 1 * (y a).val = (y a).val
  rw [h a]; omega

/-- A buffer stored whole reads what was stored. -/
theorem read_whole {sp : Space} {s : Shape} {e : EltTy} (v : View sig .tc sp s e) (f : v.ty.Contents (Elt Ideal))
    (off : Fin s.rank → ℕ) (inb) (h : ∀ a, off a = 0) (w : s.Idx → Elt Ideal e) (y : s.Idx) :
    v.read (Elt Ideal) (v.writes (Elt Ideal) f [⟨Rect.unit (s := s) off s.size inb, w⟩]) y = w y := by
  refine read_writes_of_pieces v f w _ ?_ y ⟨_, List.mem_singleton.mpr rfl, ?_⟩
  · intro p hp x
    obtain rfl := List.mem_singleton.mp hp
    exact congrArg w (whole_emb off inb h x).symm
  · rw [← Rect.map_emb_univ, Finset.mem_map]
    exact ⟨y, Finset.mem_univ _, whole_emb off inb h y⟩

/-- A buffer loaded whole. -/
theorem load_whole {sp : Space} {s : Shape} {e : EltTy} (v : View sig .tc sp s e) (f : v.ty.Contents (Elt Ideal))
    (off : Fin s.rank → ℕ) (inb) (h : ∀ a, off a = 0) (y : s.Idx) :
    v.readAt (Elt Ideal) (Rect.unit (s := s) off s.size inb).toLoadRect f y = v.read (Elt Ideal) f y := by
  rw [View.readAt_apply]
  exact congrArg _ (whole_emb off inb h y)

section Points

variable (A : Args) (c : Dev nD) (i : grid0.Coords) (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole)
  (x0 : Vec Ideal S2x1024 .f32) (x1 : Vec Ideal S2x1024 .f32) (x2 : Vec Ideal S2x1024 .f32) (x3 : Vec Ideal S2x3072 .f32) (x4 : Vec Ideal S1x128x3072 .fp8e4m3) (x5 : Vec Ideal S1x128x3072 .bf16) (x6 : Vec Ideal S1x128x3072 .fp8e5m2) (x7 : Vec Ideal S1x128x3072 .fp8e5m2)

/-- The input blocks of a grid point hold the arguments: the scales and `mod_scale` whole, of the others its 128 tokens. -/
structure Ins : Prop where
  xs : ∀ b s, x0 (ix2 b s) = A.xs (ix2 b s)
  dys : ∀ b s, x1 (ix2 b s) = A.dys (ix2 b s)
  dhs : ∀ b s, x2 (ix2 b s) = A.dhs (ix2 b s)
  ms : ∀ b d, x3 (ix2 b d) = A.ms (ix2 b d)
  x : ∀ r d, x4 (ix3 0 r d) = A.x (ix3 (bOf i) (tok (jOf i) r) d)
  f : ∀ r d, x5 (ix3 0 r d) = A.f (ix3 (bOf i) (tok (jOf i) r) d)
  dy : ∀ r d, x6 (ix3 0 r d) = A.dy (ix3 (bOf i) (tok (jOf i) r) d)
  dh : ∀ r d, x7 (ix3 0 r d) = A.dh (ix3 (bOf i) (tok (jOf i) r) d)

/-- The point's scales of one kind, loaded. -/
theorem scales_load (arg : Memref sig .tc .vmem S2x1024 .f32) (harg : arg.IsWhole) (x : Vec Ideal S2x1024 .f32)
    (b : Fin 2) (r : Fin 128) :
    View.readAt (Elt Ideal) arg.view (Rect.unit (s := S2x1024) (k0_off1 i) S2x128.size (k0_off1_inb i)).toLoadRect
      (harg.unread x) (ix2 b r) = x (ix2 b (tok (jOf i) r)) := by
  rw [View.readAt_apply, harg.read_unread]
  refine congrArg x ?_
  show (Rect.unit (s := S2x1024) (k0_off1 i) S2x128.size (k0_off1_inb i)).emb (ix2 b r) = _
  have e := off1_eq i
  funext a
  apply Fin.ext
  rw [Rect.emb_apply]
  fin_cases a
  · show k0_off1 i 0 + 1 * b.val = b.val
    rw [e]; simp
  · show k0_off1 i 1 + 1 * r.val = 128 * (jOf i).val + r.val
    rw [e]; simp

variable {A i x0 x1 x2 x3 x4 x5 x6 x7}

/-- So the buffers that the row loop reads hold the point's rows. -/
theorem Ins.bufs (h : Ins A i x0 x1 x2 x3 x4 x5 x6 x7) :
    Bufs A i arg6 arg7 arg8 arg9 arg13 arg14 arg15 arg17 (harg6.unread x4) (harg7.unread x5) (harg8.unread x6) (harg9.unread x7) (buf13 i arg2 harg2 arg13 x0) (buf14 i arg3 harg3 arg14 x1) (buf15 i arg4 harg4 arg15 x2) (buf17 i arg5 harg5 arg17 x3) where
  x r d := by rw [harg6.read_unread]; exact h.x r d
  f r d := by rw [harg7.read_unread]; exact h.f r d
  dy r d := by rw [harg8.read_unread]; exact h.dy r d
  dh r d := by rw [harg9.read_unread]; exact h.dh r d
  xs r l := (read_whole arg13.view _ _ _ (by intro a; fin_cases a <;> rfl) _ _).trans
    ((scale_apply i _ r l).trans ((scales_load i arg2 harg2 x0 _ r).trans (h.xs _ _)))
  dys r l := (read_whole arg14.view _ _ _ (by intro a; fin_cases a <;> rfl) _ _).trans
    ((scale_apply i _ r l).trans ((scales_load i arg3 harg3 x1 _ r).trans (h.dys _ _)))
  dhs r l := (read_whole arg15.view _ _ _ (by intro a; fin_cases a <;> rfl) _ _).trans
    ((scale_apply i _ r l).trans ((scales_load i arg4 harg4 x2 _ r).trans (h.dhs _ _)))
  m d := (read_whole arg17.view _ _ _ (by intro a; fin_cases a <;> rfl) _ _).trans
    ((m1_apply i _ 0 d).trans (congrArg (Ideal.ofBits .f32 0x3F800000#32 + ·)
      ((load_whole arg5.view _ _ _ (by intro a; fin_cases a <;> rfl) _).trans
        ((congrFun (harg5.read_unread x3) _).trans (h.ms _ d)))))

/-- The stores into the `dx` block hold the rows of `dx`. -/
theorem Ins.dx (h : Ins A i x0 x1 x2 x3 x4 x5 x6 x7) :
    ∀ p ∈ dxStores c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7, ∀ x, p.2 x = (blkRow A i (p.1.emb x 1).val).dx (p.1.emb x 2) :=
  steps_dx (fun k => grp arg6 arg7 arg8 arg9 arg13 arg14 arg15 arg17 (harg6.unread x4) (harg7.unread x5) (harg8.unread x6) (harg9.unread x7) (buf13 i arg2 harg2 arg13 x0) (buf14 i arg3 harg3 arg14 x1) (buf15 i arg4 harg4 arg15 x2) (buf17 i arg5 harg5 arg17 x3) k) (blkRow A i)
    (fun k => (h.bufs arg2 harg2 arg3 harg3 arg4 harg4 arg5 harg5 arg6 harg6 arg7 harg7 arg8 harg8 arg9 harg9 arg13 arg14 arg15 arg17).holds A i _ _ _ _ _ _ _ _ _ _ _ _ _ _ _ _ k)
    (trips c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) rfl
    (fun k => congrArg Prod.fst (pb_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg6.unread x4) (harg7.unread x5) (harg8.unread x6) (harg9.unread x7) (buf13 i arg2 harg2 arg13 x0) (buf14 i arg3 harg3 arg14 x1) (buf15 i arg4 harg4 arg15 x2) (buf17 i arg5 harg5 arg17 x3) arg10.view.junk (arg16.view.writes (Elt Ideal) arg16.view.junk zeroPiece) k)) _ le_rfl

/-- The accumulator holds, at each sublane, the sums over the rows of that sublane. -/
theorem Ins.held (h : Ins A i x0 x1 x2 x3 x4 x5 x6 x7) (y : S3x8x3072.Idx) :
    acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 y = ∑ k ∈ Finset.range 4, ∑ u : Fin 4, (blkRow A i (32 * k + (8 * u.val + (y 1).val))).v (y 0) (y 2) := by
  refine (load_whole arg16.view _ _ _ (by intro a; fin_cases a <;> rfl) y).trans ?_
  rw [View.writes_append]
  have e := steps_acc (fun k => grp arg6 arg7 arg8 arg9 arg13 arg14 arg15 arg17 (harg6.unread x4) (harg7.unread x5) (harg8.unread x6) (harg9.unread x7) (buf13 i arg2 harg2 arg13 x0) (buf14 i arg3 harg3 arg14 x1) (buf15 i arg4 harg4 arg15 x2) (buf17 i arg5 harg5 arg17 x3) k) (blkRow A i)
    (fun k => (h.bufs arg2 harg2 arg3 harg3 arg4 harg4 arg5 harg5 arg6 harg6 arg7 harg7 arg8 harg8 arg9 harg9 arg13 arg14 arg15 arg17).holds A i _ _ _ _ _ _ _ _ _ _ _ _ _ _ _ _ k)
    (trips c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) rfl arg16.view (arg16.view.writes (Elt Ideal) arg16.view.junk zeroPiece)
    (fun y => (read_whole arg16.view _ _ _ (by intro a; fin_cases a <;> rfl) _ _).trans (zero_apply y))
    (fun k => congrArg Prod.snd (pb_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg6.unread x4) (harg7.unread x5) (harg8.unread x6) (harg9.unread x7) (buf13 i arg2 harg2 arg13 x0) (buf14 i arg3 harg3 arg14 x1) (buf15 i arg4 harg4 arg15 x2) (buf17 i arg5 harg5 arg17 x3) arg10.view.junk (arg16.view.writes (Elt Ideal) arg16.view.junk zeroPiece) k)) _ le_rfl y
  rw [trips_eq] at e
  exact e

/-- Summed over its sublanes, it is the sum over the block's tokens. -/
theorem Ins.sums (h : Ins A i x0 x1 x2 x3 x4 x5 x6 x7) (q : Fin 3) (d : Fin 3072) :
    k0_pay4 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) (ix2 q d) = A.blk (bOf i) (jOf i) q d := by
  refine (sublanes_apply _ q d).trans ?_
  refine (Finset.sum_congr rfl fun s _ => h.held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (ix3 q s d)).trans ?_
  refine (sum_rows fun n => (blkRow A i n).v q d).trans ?_
  exact Finset.sum_congr rfl fun r _ => by rw [blkRow_val]

/-- The step's store into the block of modulation sums. -/
theorem Ins.blk (h : Ins A i x0 x1 x2 x3 x4 x5 x6 x7) (q : Fin 3) (d : Fin 3072) :
    k0_pay5 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) (ix4 0 0 q d) = A.blk (bOf i) (jOf i) q d := by
  have e : k0_pay5 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) = shapeCast S1x1x3x3072 (k0_pay4 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)) shapeCasts_S3x3072_S1x1x3x3072 := rfl
  rw [e]
  refine (shapeCast_apply _ _ _ (ix2 q d) ?_).trans (h.sums c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q d)
  rw [Shape.rowMajor_val_four, Shape.rowMajor_val_two]
  show q.val * 3072 + d.val = ((0 * 1 + 0) * 3 + q.val) * 3072 + d.val
  omega

/-- The first step's store into the modulation result. -/
theorem Ins.first (h : Ins A i x0 x1 x2 x3 x4 x5 x6 x7) (q : Fin 3) (d : Fin 3072) :
    k0_pay6 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) (ix3 0 q d) = A.blk (bOf i) (jOf i) q d := by
  have e : k0_pay6 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) = shapeCast S1x3x3072 (k0_pay4 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7)) shapeCasts_S3x3072_S1x3x3072 := rfl
  rw [e]
  exact (shapeCast_ab_1ab_apply _ _ 0 q d).trans (h.sums c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q d)

/-- A later step's store adds the block's sum to what the earlier steps left. -/
theorem Ins.later (h : Ins A i x0 x1 x2 x3 x4 x5 x6 x7) (v : Vec Ideal S1x3x3072 .f32) (q : Fin 3) (d : Fin 3072) :
    k0_pay7 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) v (ix3 0 q d) = (v (ix3 0 q d) + A.blk (bOf i) (jOf i) q d : EReal) := by
  have e : k0_pay7 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7) v = shapeCast S1x3x3072 (addf (shapeCast S3x3072 v shapeCasts_S1x3x3072_S3x3072 : FVec Ideal S3x3072 .f32)
    (k0_pay4 (acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7))) shapeCasts_S3x3072_S1x3x3072 := rfl
  rw [e]
  refine (shapeCast_ab_1ab_apply _ _ 0 q d).trans ?_
  exact congrArg₂ (fun a b : EReal => a + b) (shapeCast_1ab_ab_apply _ _ q d) (h.sums c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q d)

end Points

end Cert.KernelIdeal.Val

end
-- ==== Proof.Cases.lean ====
module

public import proofs.«01_k».proof.Proof.Point
public import proofs.«01_k».proof.Proof.Ki.Frame

/-! # What the body leaves in its output buffers, in each of its two cases

At the first step of a batch (case A) the modulation result is set, at the later ones (case B) it is added to. -/

@[expose] public section

set_option maxRecDepth 16384

noncomputable section

namespace Cert.KernelIdeal.Val

open Idealize.ShloMosaic Idealize.ShloMosaic.TcCoe Idealize.ShloMosaic.ValueIdx Cert.KernelIdeal.Gen Cert.Spec

/-- Row `n` of the point's block, at a row index. -/
theorem blkRow_dx (A : Args) (i : grid0.Coords) (r : Fin 128) (d : Fin 3072) :
    (blkRow A i r.val).dx d = A.dx (bOf i) (tok (jOf i) r) d := by
  rw [blkRow_val]; rfl

/-- Pieces that agree with a function on what they cover, read back. -/
theorem read_cover {sp : Space} {s : Shape} {e : EltTy} (v : View sig .tc sp s e) (f : v.ty.Contents (Elt Ideal))
    (L : List (View.Piece (Elt Ideal) s e)) (g : s.Idx → Elt Ideal e) (hL : ∀ p ∈ L, ∀ x, p.2 x = g (p.1.emb x)) (y : s.Idx)
    (hy : ∃ p ∈ L, y ∈ p.1.set) : v.read (Elt Ideal) (v.writes (Elt Ideal) f L) y = g y :=
  read_writes_of_pieces v f g L hL y hy

section Cases

variable {A : Args} (c : Dev nD) {i : grid0.Coords} (arg2 : Memref sig .tc .vmem S2x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S2x3072 .f32) (harg5 : arg5.IsWhole) (arg6 : Memref sig .tc .vmem S1x128x3072 .fp8e4m3) (harg6 : arg6.IsWhole) (arg7 : Memref sig .tc .vmem S1x128x3072 .bf16) (harg7 : arg7.IsWhole) (arg8 : Memref sig .tc .vmem S1x128x3072 .fp8e5m2) (harg8 : arg8.IsWhole) (arg9 : Memref sig .tc .vmem S1x128x3072 .fp8e5m2) (harg9 : arg9.IsWhole) (arg10 : Memref sig .tc .vmem S1x128x3072 .bf16) (harg10 : arg10.IsWhole) (arg11 : Memref sig .tc .vmem S1x3x3072 .f32) (harg11 : arg11.IsWhole) (arg12 : Memref sig .tc .vmem S1x1x3x3072 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S3x8x3072 .f32) (harg16 : arg16.IsWhole) (arg17 : Memref sig .tc .vmem S1x3072 .f32) (harg17 : arg17.IsWhole)
  {x0 : Vec Ideal S2x1024 .f32} {x1 : Vec Ideal S2x1024 .f32} {x2 : Vec Ideal S2x1024 .f32} {x3 : Vec Ideal S2x3072 .f32} {x4 : Vec Ideal S1x128x3072 .fp8e4m3} {x5 : Vec Ideal S1x128x3072 .bf16} {x6 : Vec Ideal S1x128x3072 .fp8e5m2} {x7 : Vec Ideal S1x128x3072 .fp8e5m2}

/-- Case A: the `dx` block holds the rows of `dx`. -/
theorem Ins.dx_A (h : Ins A i x0 x1 x2 x3 x4 x5 x6 x7) (hc0 : cond0_0 i) (hc1 : ¬cond0_1 i) (r : Fin 128) (d : Fin 3072) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 (ix3 0 r d) = A.dx (bOf i) (tok (jOf i) r) d :=
  (read_cover VO0_8 _ _ (fun y => (blkRow A i (y 1).val).dx (y 2)) (h.dx c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (ix3 0 r d) (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 (ix3 0 r d))).trans
    (blkRow_dx A i r d)

/-- Case A: the block of modulation sums. -/
theorem Ins.blk_A (h : Ins A i x0 x1 x2 x3 x4 x5 x6 x7) (hc0 : cond0_0 i) (hc1 : ¬cond0_1 i) (q : Fin 3) (d : Fin 3072) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 (ix4 0 0 q d) = A.blk (bOf i) (jOf i) q d :=
  (read_whole VO0_10 _ _ _ (by intro a; fin_cases a <;> rfl) _ _).trans (h.blk c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q d)

/-- Case B: the `dx` block holds the rows of `dx`. -/
theorem Ins.dx_B (h : Ins A i x0 x1 x2 x3 x4 x5 x6 x7) (hc0 : ¬cond0_0 i) (hc1 : cond0_1 i) (xo9 : Vec Ideal S1x3x3072 .f32) (r : Fin 128) (d : Fin 3072) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9 (ix3 0 r d) = A.dx (bOf i) (tok (jOf i) r) d :=
  (read_cover VO0_8 _ _ (fun y => (blkRow A i (y 1).val).dx (y 2)) (h.dx c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (ix3 0 r d) (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9 (ix3 0 r d))).trans
    (blkRow_dx A i r d)

/-- Case B: the block of modulation sums. -/
theorem Ins.blk_B (h : Ins A i x0 x1 x2 x3 x4 x5 x6 x7) (hc0 : ¬cond0_0 i) (hc1 : cond0_1 i) (xo9 : Vec Ideal S1x3x3072 .f32) (q : Fin 3) (d : Fin 3072) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9 (ix4 0 0 q d) = A.blk (bOf i) (jOf i) q d :=
  (read_whole VO0_10 _ _ _ (by intro a; fin_cases a <;> rfl) _ _).trans (h.blk c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q d)

/-- Case A: the modulation result is set to the block's sum. -/
theorem Ins.mod_A (h : Ins A i x0 x1 x2 x3 x4 x5 x6 x7) (hc0 : cond0_0 i) (hc1 : ¬cond0_1 i) (q : Fin 3) (d : Fin 3072) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 (ix3 0 q d) = A.blk (bOf i) (jOf i) q d :=
  (read_whole VO0_9 _ _ _ (by intro a; fin_cases a <;> rfl) _ _).trans (h.first c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 q d)

/-- Case B: the block's sum is added to what it held. -/
theorem Ins.mod_B (h : Ins A i x0 x1 x2 x3 x4 x5 x6 x7) (hc0 : ¬cond0_0 i) (hc1 : cond0_1 i) (xo9 : Vec Ideal S1x3x3072 .f32) (q : Fin 3) (d : Fin 3072) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xo9 (ix3 0 q d) = (xo9 (ix3 0 q d) + A.blk (bOf i) (jOf i) q d : EReal) :=
  (read_whole VO0_9 _ _ _ (by intro a; fin_cases a <;> rfl) _ _).trans ((h.later c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ q d).trans (congrArg (fun a : EReal => a + A.blk (bOf i) (jOf i) q d)
    ((load_whole arg11.view _ _ _ (by intro a; fin_cases a <;> rfl) _).trans (congrFun (harg11.read_unread xo9) _))))

end Cases

end Cert.KernelIdeal.Val

end
-- ==== Proof.Inputs.lean ====
module

public import proofs.«01_k».proof.Proof.Point
public import proofs.«01_k».proof.Proof.Gen.KernelIdeal.Frame.Runs

/-! # The input blocks of a grid point are the arguments' -/

@[expose] public section

set_option maxRecDepth 16384

noncomputable section

namespace Cert.KernelIdeal.Val

open Idealize.ShloMosaic Idealize.ShloMosaic.TcCoe Idealize.ShloMosaic.ValueIdx Cert.KernelIdeal.Gen Cert.Spec

variable (m : (ℓ : Loc nD τ sig) → Buf (Elt Ideal) ℓ)

/-- Device `c`'s arguments. -/
def argsOf (c : Dev nD) : Args where
  x := m ((c : Thread nD τ).loc main_arg0)
  xs := m ((c : Thread nD τ).loc main_arg1)
  f := m ((c : Thread nD τ).loc main_arg2)
  dy := m ((c : Thread nD τ).loc main_arg3)
  dys := m ((c : Thread nD τ).loc main_arg4)
  dh := m ((c : Thread nD τ).loc main_arg5)
  dhs := m ((c : Thread nD τ).loc main_arg6)
  ms := m ((c : Thread nD τ).loc main_arg7)

/-- Where the blocks of the token arrays begin: batch and block of tokens are the point's. -/
theorem start4 : ∀ t : Fin grid0.N, win0_4.index t 0 * win0_4.size 0 = (bOf (grid0.coords t)).val
    ∧ win0_4.index t 1 * win0_4.size 1 = 128 * (jOf (grid0.coords t)).val ∧ win0_4.index t 2 * win0_4.size 2 = 0 := by
  decide +kernel

theorem start5 : ∀ t : Fin grid0.N, win0_5.index t 0 * win0_5.size 0 = (bOf (grid0.coords t)).val
    ∧ win0_5.index t 1 * win0_5.size 1 = 128 * (jOf (grid0.coords t)).val ∧ win0_5.index t 2 * win0_5.size 2 = 0 := by
  decide +kernel

theorem start6 : ∀ t : Fin grid0.N, win0_6.index t 0 * win0_6.size 0 = (bOf (grid0.coords t)).val
    ∧ win0_6.index t 1 * win0_6.size 1 = 128 * (jOf (grid0.coords t)).val ∧ win0_6.index t 2 * win0_6.size 2 = 0 := by
  decide +kernel

theorem start7 : ∀ t : Fin grid0.N, win0_7.index t 0 * win0_7.size 0 = (bOf (grid0.coords t)).val
    ∧ win0_7.index t 1 * win0_7.size 1 = 128 * (jOf (grid0.coords t)).val ∧ win0_7.index t 2 * win0_7.size 2 = 0 := by
  decide +kernel

/-- The scales and `mod_scale` are staged whole. -/
theorem start0 : ∀ t : Fin grid0.N, win0_0.index t 0 * win0_0.size 0 = 0 ∧ win0_0.index t 1 * win0_0.size 1 = 0 := by
  decide +kernel

theorem start1 : ∀ t : Fin grid0.N, win0_1.index t 0 * win0_1.size 0 = 0 ∧ win0_1.index t 1 * win0_1.size 1 = 0 := by
  decide +kernel

theorem start2 : ∀ t : Fin grid0.N, win0_2.index t 0 * win0_2.size 0 = 0 ∧ win0_2.index t 1 * win0_2.size 1 = 0 := by
  decide +kernel

theorem start3 : ∀ t : Fin grid0.N, win0_3.index t 0 * win0_3.size 0 = 0 ∧ win0_3.index t 1 * win0_3.size 1 = 0 := by
  decide +kernel

/-- An index of a token array, from a block's. -/
theorem at3 {t : Fin grid0.N} {o : Fin 3 → ℕ} (r : Fin 128) (d : Fin 3072) (i : (⟨3, ![2, 1024, 3072]⟩ : Shape).Idx)
    (h0 : (i 0).val = o 0 + 1 * 0) (h1 : (i 1).val = o 1 + 1 * r.val) (h2 : (i 2).val = o 2 + 1 * d.val)
    (e : o 0 = (bOf (grid0.coords t)).val ∧ o 1 = 128 * (jOf (grid0.coords t)).val ∧ o 2 = 0) :
    i = ix3 (bOf (grid0.coords t)) (tok (jOf (grid0.coords t)) r) d := by
  funext a
  apply Fin.ext
  fin_cases a
  · exact h0.trans (by rw [e.1]; show _ = (bOf (grid0.coords t)).val; omega)
  · exact h1.trans (by rw [e.2.1]; show _ = 128 * (jOf (grid0.coords t)).val + r.val; omega)
  · exact h2.trans (by rw [e.2.2]; show _ = d.val; omega)

/-- An index of a scale array, from its block's. -/
theorem at2 {n₀ n₁ : ℕ} {o : Fin 2 → ℕ} (b : Fin n₀) (s : Fin n₁) (i : (⟨2, ![n₀, n₁]⟩ : Shape).Idx)
    (h0 : (i 0).val = o 0 + 1 * b.val) (h1 : (i 1).val = o 1 + 1 * s.val) (e : o 0 = 0 ∧ o 1 = 0) : i = ix2 b s := by
  funext a
  apply Fin.ext
  fin_cases a
  · exact h0.trans (by rw [e.1]; show _ = b.val; omega)
  · exact h1.trans (by rw [e.2]; show _ = s.val; omega)

/-- The input blocks of point `t` hold the arguments. -/
theorem ins (c : Dev nD) (t : Fin cfg0.N) : Ins (argsOf m c) (grid0.coords t) (iblk m c 0 t) (iblk m c 1 t) (iblk m c 2 t)
    (iblk m c 3 t) (iblk m c 4 t) (iblk m c 5 t) (iblk m c 6 t) (iblk m c 7 t) where
  xs b s := congrArg (argsOf m c).xs (at2 (o := fun a => win0_0.index t a * win0_0.size a) b s _ rfl rfl (start0 t))
  dys b s := congrArg (argsOf m c).dys (at2 (o := fun a => win0_1.index t a * win0_1.size a) b s _ rfl rfl (start1 t))
  dhs b s := congrArg (argsOf m c).dhs (at2 (o := fun a => win0_2.index t a * win0_2.size a) b s _ rfl rfl (start2 t))
  ms b s := congrArg (argsOf m c).ms (at2 (o := fun a => win0_3.index t a * win0_3.size a) b s _ rfl rfl (start3 t))
  x r d := congrArg (argsOf m c).x (at3 (o := fun a => win0_4.index t a * win0_4.size a) r d _ rfl rfl rfl (start4 t))
  f r d := congrArg (argsOf m c).f (at3 (o := fun a => win0_5.index t a * win0_5.size a) r d _ rfl rfl rfl (start5 t))
  dy r d := congrArg (argsOf m c).dy (at3 (o := fun a => win0_6.index t a * win0_6.size a) r d _ rfl rfl rfl (start6 t))
  dh r d := congrArg (argsOf m c).dh (at3 (o := fun a => win0_7.index t a * win0_7.size a) r d _ rfl rfl rfl (start7 t))

end Cert.KernelIdeal.Val

end
-- ==== Proof.Arrays.lean ====
module

public import proofs.«01_k».proof.Proof.Cases
public import proofs.«01_k».proof.Proof.Inputs
public import proofs.«01_k».proof.Proof.Ki.Value

/-! # What the kernel's three result arrays hold after the run -/

@[expose] public section

set_option maxRecDepth 16384

noncomputable section

namespace Cert.KernelIdeal.Val

open Idealize.ShloMosaic Idealize.ShloMosaic.TcCoe Idealize.ShloMosaic.ValueIdx Cert.KernelIdeal.Gen Cert.Spec

variable (m : (ℓ : Loc nD τ sig) → Buf (Elt Ideal) ℓ) (c : Dev nD)

/-- The grid runs through the blocks of tokens of one batch, then of the next. -/
theorem coords_val : ∀ t : Fin grid0.N, (bOf (grid0.coords t)).val = t.val / 8 ∧ (jOf (grid0.coords t)).val = t.val % 8 := by
  decide +kernel

/-! ## After each grid point -/

/-- The `dx` block. -/
theorem outs_dx (t : Fin cfg0.N) (r : Fin 128) (d : Fin 3072) :
    (outsAt0 m c t.val t.isLt).1 (ix3 0 r d) = (argsOf m c).dx (bOf (grid0.coords t)) (tok (jOf (grid0.coords t)) r) d := by
  by_cases h0 : t.val % 8 = 0
  · have e := congrArg (fun p => p.1) (outsAt0_A m c t h0 (by omega))
    dsimp only at e
    exact (congrFun e _).trans ((ins m c t).dx_A ..)
  · have e := congrArg (fun p => p.1) (outsAt0_B m c t h0 (by omega))
    dsimp only at e
    exact (congrFun e _).trans ((ins m c t).dx_B ..)

/-- The block of modulation sums. -/
theorem outs_blk (t : Fin cfg0.N) (q : Fin 3) (d : Fin 3072) :
    (outsAt0 m c t.val t.isLt).2.2 (ix4 0 0 q d) = (argsOf m c).blk (bOf (grid0.coords t)) (jOf (grid0.coords t)) q d := by
  by_cases h0 : t.val % 8 = 0
  · have e := congrArg (fun p => p.2.2) (outsAt0_A m c t h0 (by omega))
    dsimp only at e
    exact (congrFun e _).trans ((ins m c t).blk_A ..)
  · have e := congrArg (fun p => p.2.2) (outsAt0_B m c t h0 (by omega))
    dsimp only at e
    exact (congrFun e _).trans ((ins m c t).blk_B ..)

/-- The sum of block `j mod 8` of batch `b mod 2`: the blocks' sums by numbers. -/
def blkN (A : Args) (b j : ℕ) (q : Fin 3) (d : Fin 3072) : EReal :=
  A.blk ⟨b % 2, Nat.mod_lt _ (by omega)⟩ ⟨j % 8, Nat.mod_lt _ (by omega)⟩ q d

theorem blkN_coords (A : Args) (t : Fin cfg0.N) (q : Fin 3) (d : Fin 3072) :
    A.blk (bOf (grid0.coords t)) (jOf (grid0.coords t)) q d = blkN A (t.val / 8) (t.val % 8) q d := by
  have h := coords_val t
  have hb : bOf (grid0.coords t) = ⟨t.val / 8 % 2, Nat.mod_lt _ (by omega)⟩ :=
    Fin.ext (h.1.trans (Nat.mod_eq_of_lt (h.1 ▸ (bOf (grid0.coords t)).isLt)).symm)
  have hj : jOf (grid0.coords t) = ⟨t.val % 8 % 8, Nat.mod_lt _ (by omega)⟩ :=
    Fin.ext (h.2.trans (Nat.mod_eq_of_lt (Nat.mod_lt _ (by omega))).symm)
  rw [hb, hj]; rfl

/-- The modulation result's block after the first point of a batch, -/
theorem outs_first (t : Fin cfg0.N) (h0 : t.val % 8 = 0) (q : Fin 3) (d : Fin 3072) :
    (outsAt0 m c t.val t.isLt).2.1 (ix3 0 q d) = blkN (argsOf m c) (t.val / 8) (t.val % 8) q d := by
  have e := congrArg (fun p => p.2.1) (outsAt0_A m c t h0 (by omega))
  dsimp only at e
  exact (congrFun e _).trans (((ins m c t).mod_A ..).trans (blkN_coords _ t q d))

/-- and after a later point, over what the point before left. -/
theorem outs_later (t : Fin cfg0.N) (h0 : ¬t.val % 8 = 0) (q : Fin 3) (d : Fin 3072) :
    (outsAt0 m c t.val t.isLt).2.1 (ix3 0 q d)
      = ((outsAt0 m c (t.val - 1) (Nat.lt_of_le_of_lt (Nat.sub_le _ _) t.isLt)).2.1 (ix3 0 q d)
          + blkN (argsOf m c) (t.val / 8) (t.val % 8) q d : EReal) := by
  have e := congrArg (fun p => p.2.1) (outsAt0_B m c t h0 (by omega))
  dsimp only at e
  rw [← blkN_coords]
  exact (congrFun e _).trans ((ins m c t).mod_B ..)

/-- After point `n` it holds the sum over the batch's blocks so far. -/
theorem outs_mod (q : Fin 3) (d : Fin 3072) (n : ℕ) (hn : n < cfg0.N) :
    (outsAt0 m c n hn).2.1 (ix3 0 q d) = ∑ j ∈ Finset.range (n % 8 + 1), blkN (argsOf m c) (n / 8) j q d := by
  induction n with
  | zero =>
    rw [Finset.sum_range_one]
    exact outs_first m c ⟨0, hn⟩ rfl q d
  | succ n ih =>
    by_cases h0 : (n + 1) % 8 = 0
    · have e := outs_first m c ⟨n + 1, hn⟩ h0 q d
      dsimp only at e
      rw [e, h0, Finset.sum_range_one]
    · have e := outs_later m c ⟨n + 1, hn⟩ h0 q d
      dsimp only [Nat.add_sub_cancel] at e
      have e1 : (n + 1) % 8 = n % 8 + 1 := by omega
      have e2 : (n + 1) / 8 = n / 8 := by omega
      have e3 := ih (Nat.lt_of_succ_lt hn)
      rw [e1, e2, Finset.sum_range_succ, ← e3, ← e1, ← e2]
      exact e

/-- The sum over the blocks of a batch. -/
theorem sum_blkN (A : Args) (b : Fin 2) (q : Fin 3) (d : Fin 3072) :
    ∑ j ∈ Finset.range 8, blkN A b.val j q d = A.dmod b q d := by
  rw [Finset.sum_range]
  refine Finset.sum_congr rfl fun j _ => ?_
  show A.blk _ _ q d = A.blk b j q d
  congr 1
  · exact Fin.ext (Nat.mod_eq_of_lt b.isLt)
  · exact Fin.ext (Nat.mod_eq_of_lt j.isLt)

/-! ## The arrays -/

/-- Where the result blocks begin. -/
theorem start8 : ∀ t : Fin grid0.N, win0_8.index t 0 * win0_8.size 0 = (bOf (grid0.coords t)).val
    ∧ win0_8.index t 1 * win0_8.size 1 = 128 * (jOf (grid0.coords t)).val ∧ win0_8.index t 2 * win0_8.size 2 = 0 := by
  decide +kernel

theorem start9 : ∀ t : Fin grid0.N, win0_9.index t 0 * win0_9.size 0 = (bOf (grid0.coords t)).val
    ∧ win0_9.index t 1 * win0_9.size 1 = 0 ∧ win0_9.index t 2 * win0_9.size 2 = 0 := by
  decide +kernel

theorem start10 : ∀ t : Fin grid0.N, win0_10.index t 0 * win0_10.size 0 = (bOf (grid0.coords t)).val
    ∧ win0_10.index t 1 * win0_10.size 1 = (jOf (grid0.coords t)).val ∧ win0_10.index t 2 * win0_10.size 2 = 0
    ∧ win0_10.index t 3 * win0_10.size 3 = 0 := by
  decide +kernel

/-- The results, as arrays. -/
def dxArr (A : Args) : S2x1024x3072.Idx → EReal := fun i => A.dx (i 0) (i 1) (i 2)
def modArr (A : Args) : S2x3x3072.Idx → EReal := fun i => A.dmod (i 0) (i 1) (i 2)
def blkArr (A : Args) : S2x8x3x3072.Idx → EReal := fun i => A.blk (i 0) (i 1) (i 2) (i 3)

/-- What point `t` writes back to `dx` is its block of it. -/
theorem flushed8_eq (t : Fin cfg0.N) :
    (dats m 0 c).flushed 8 t = ((cfg0.win 8).blk t).view.read (Elt Ideal) (dxArr (argsOf m c)) := by
  rw [Value.flushed8]
  funext y
  obtain ⟨u, r, d, rfl⟩ : ∃ (u : Fin 1) (r : Fin 128) (d : Fin 3072), y = ix3 u r d :=
    ⟨y 0, y 1, y 2, by funext a; fin_cases a <;> rfl⟩
  obtain rfl : u = 0 := Subsingleton.elim _ _
  refine (outs_dx m c t r d).trans ?_
  exact (congrArg (dxArr (argsOf m c))
    (at3 (t := t) (o := fun a => win0_8.index t a * win0_8.size a) r d _ rfl rfl rfl (start8 t))).symm

/-- What point `t` writes back to the blocks' sums. -/
theorem flushed10_eq (t : Fin cfg0.N) :
    (dats m 0 c).flushed 10 t = ((cfg0.win 10).blk t).view.read (Elt Ideal) (blkArr (argsOf m c)) := by
  rw [Value.flushed10]
  funext y
  obtain ⟨u, v, q, d, rfl⟩ : ∃ (u v : Fin 1) (q : Fin 3) (d : Fin 3072), y = ix4 u v q d :=
    ⟨y 0, y 1, y 2, y 3, by funext a; fin_cases a <;> rfl⟩
  obtain rfl : u = 0 := Subsingleton.elim _ _
  obtain rfl : v = 0 := Subsingleton.elim _ _
  refine (outs_blk m c t q d).trans ?_
  have h := start10 t
  have at4 : ∀ i : S2x8x3x3072.Idx, (i 0).val = win0_10.index t 0 * win0_10.size 0 + 1 * 0 →
      (i 1).val = win0_10.index t 1 * win0_10.size 1 + 1 * 0 → (i 2).val = win0_10.index t 2 * win0_10.size 2 + 1 * q.val →
      (i 3).val = win0_10.index t 3 * win0_10.size 3 + 1 * d.val →
      i = ix4 (bOf (grid0.coords t)) (jOf (grid0.coords t)) q d := by
    intro i h0 h1 h2 h3
    funext a
    apply Fin.ext
    fin_cases a
    · exact h0.trans (by rw [h.1]; show _ = (bOf (grid0.coords t)).val; omega)
    · exact h1.trans (by rw [h.2.1]; show _ = (jOf (grid0.coords t)).val; omega)
    · exact h2.trans (by rw [h.2.2.1]; show _ = q.val; omega)
    · exact h3.trans (by rw [h.2.2.2]; show _ = d.val; omega)
  exact (congrArg (blkArr (argsOf m c)) (at4 _ rfl rfl rfl rfl)).symm

/-- What the last point of a batch writes back to the modulation result. -/
theorem flushed9_eq (t : Fin cfg0.N) (hf : (cfg0.win 9).flush t = true) :
    (dats m 0 c).flushed 9 t = ((cfg0.win 9).blk t).view.read (Elt Ideal) (modArr (argsOf m c)) := by
  have h7 := (flush0_9 t).mp hf
  rw [Value.flushed9]
  funext y
  obtain ⟨u, q, d, rfl⟩ : ∃ (u : Fin 1) (q : Fin 3) (d : Fin 3072), y = ix3 u q d :=
    ⟨y 0, y 1, y 2, by funext a; fin_cases a <;> rfl⟩
  obtain rfl : u = 0 := Subsingleton.elim _ _
  refine (outs_mod m c q d t.val t.isLt).trans ?_
  rw [h7, ← (coords_val t).1, sum_blkN]
  have h := start9 t
  have at3' : ∀ i : S2x3x3072.Idx, (i 0).val = win0_9.index t 0 * win0_9.size 0 + 1 * 0 →
      (i 1).val = win0_9.index t 1 * win0_9.size 1 + 1 * q.val → (i 2).val = win0_9.index t 2 * win0_9.size 2 + 1 * d.val →
      i = ix3 (bOf (grid0.coords t)) q d := by
    intro i h0 h1 h2
    funext a
    apply Fin.ext
    fin_cases a
    · exact h0.trans (by rw [h.1]; show _ = (bOf (grid0.coords t)).val; omega)
    · exact h1.trans (by rw [h.2.1]; show _ = q.val; omega)
    · exact h2.trans (by rw [h.2.2]; show _ = d.val; omega)
  exact (congrArg (modArr (argsOf m c)) (at3' _ rfl rfl rfl)).symm

/-- The blocks are nowhere cut. -/
theorem sizes8 : ∀ t : Fin grid0.N, win0_8.xsize (grid0.coords t) 0 = 1 ∧ win0_8.xsize (grid0.coords t) 1 = 128
    ∧ win0_8.xsize (grid0.coords t) 2 = 3072 := by decide +kernel

theorem sizes9 : ∀ t : Fin grid0.N, win0_9.xsize (grid0.coords t) 0 = 1 ∧ win0_9.xsize (grid0.coords t) 1 = 3
    ∧ win0_9.xsize (grid0.coords t) 2 = 3072 := by decide +kernel

theorem sizes10 : ∀ t : Fin grid0.N, win0_10.xsize (grid0.coords t) 0 = 1 ∧ win0_10.xsize (grid0.coords t) 1 = 1
    ∧ win0_10.xsize (grid0.coords t) 2 = 3 ∧ win0_10.xsize (grid0.coords t) 3 = 3072 := by decide +kernel

/-- Every index of `dx` lies in a point's block. -/
theorem cover8 (i : S2x1024x3072.Idx) :
    ∃ t : Fin cfg0.N, (cfg0.win 8).flush t = true ∧ i ∈ ((cfg0.win 8).blk t).view.set := by
  have hN : cfg0.N = 16 := N_0
  have h0 : (i 0).val < 2 := (i 0).isLt
  have h1 : (i 1).val < 1024 := (i 1).isLt
  have h2 : (i 2).val < 3072 := (i 2).isLt
  refine ⟨⟨8 * (i 0).val + (i 1).val / 128, by omega⟩, flush0_8 _, ?_⟩
  generalize ht : (⟨8 * (i 0).val + (i 1).val / 128, _⟩ : Fin cfg0.N) = t
  have hv : t.val = 8 * (i 0).val + (i 1).val / 128 := by rw [← ht]
  have hs := start8 t
  have hz := sizes8 t
  have hc := coords_val t
  show i ∈ ((View.whole main_v0_0).slice (win0_8.rect t)).set
  rw [View.set_slice_whole, Rect.mem_set_unit]
  intro a
  match a with
  | ⟨0, _⟩ =>
    show win0_8.index t 0 * win0_8.size 0 ≤ (i 0).val
      ∧ (i 0).val < win0_8.index t 0 * win0_8.size 0 + win0_8.xsize (grid0.coords t) 0
    rw [hs.1, hz.1]; omega
  | ⟨1, _⟩ =>
    show win0_8.index t 1 * win0_8.size 1 ≤ (i 1).val
      ∧ (i 1).val < win0_8.index t 1 * win0_8.size 1 + win0_8.xsize (grid0.coords t) 1
    rw [hs.2.1, hz.2.1]; omega
  | ⟨2, _⟩ =>
    show win0_8.index t 2 * win0_8.size 2 ≤ (i 2).val
      ∧ (i 2).val < win0_8.index t 2 * win0_8.size 2 + win0_8.xsize (grid0.coords t) 2
    rw [hs.2.2, hz.2.2]; omega

/-- Every index of the modulation result lies in the block of its batch's last point. -/
theorem cover9 (i : S2x3x3072.Idx) :
    ∃ t : Fin cfg0.N, (cfg0.win 9).flush t = true ∧ i ∈ ((cfg0.win 9).blk t).view.set := by
  have hN : cfg0.N = 16 := N_0
  have h0 : (i 0).val < 2 := (i 0).isLt
  have h1 : (i 1).val < 3 := (i 1).isLt
  have h2 : (i 2).val < 3072 := (i 2).isLt
  refine ⟨⟨8 * (i 0).val + 7, by omega⟩, (flush0_9 _).mpr (by show (8 * (i 0).val + 7) % 8 = 7; omega), ?_⟩
  generalize ht : (⟨8 * (i 0).val + 7, _⟩ : Fin cfg0.N) = t
  have hv : t.val = 8 * (i 0).val + 7 := by rw [← ht]
  have hs := start9 t
  have hz := sizes9 t
  have hc := coords_val t
  show i ∈ ((View.whole main_v0_1).slice (win0_9.rect t)).set
  rw [View.set_slice_whole, Rect.mem_set_unit]
  intro a
  match a with
  | ⟨0, _⟩ =>
    show win0_9.index t 0 * win0_9.size 0 ≤ (i 0).val
      ∧ (i 0).val < win0_9.index t 0 * win0_9.size 0 + win0_9.xsize (grid0.coords t) 0
    rw [hs.1, hz.1]; omega
  | ⟨1, _⟩ =>
    show win0_9.index t 1 * win0_9.size 1 ≤ (i 1).val
      ∧ (i 1).val < win0_9.index t 1 * win0_9.size 1 + win0_9.xsize (grid0.coords t) 1
    rw [hs.2.1, hz.2.1]; omega
  | ⟨2, _⟩ =>
    show win0_9.index t 2 * win0_9.size 2 ≤ (i 2).val
      ∧ (i 2).val < win0_9.index t 2 * win0_9.size 2 + win0_9.xsize (grid0.coords t) 2
    rw [hs.2.2, hz.2.2]; omega

/-- Every index of the blocks' sums lies in a point's block. -/
theorem cover10 (i : S2x8x3x3072.Idx) :
    ∃ t : Fin cfg0.N, (cfg0.win 10).flush t = true ∧ i ∈ ((cfg0.win 10).blk t).view.set := by
  have hN : cfg0.N = 16 := N_0
  have h0 : (i 0).val < 2 := (i 0).isLt
  have h1 : (i 1).val < 8 := (i 1).isLt
  have h2 : (i 2).val < 3 := (i 2).isLt
  have h3 : (i 3).val < 3072 := (i 3).isLt
  refine ⟨⟨8 * (i 0).val + (i 1).val, by omega⟩, flush0_10 _, ?_⟩
  generalize ht : (⟨8 * (i 0).val + (i 1).val, _⟩ : Fin cfg0.N) = t
  have hv : t.val = 8 * (i 0).val + (i 1).val := by rw [← ht]
  have hs := start10 t
  have hz := sizes10 t
  have hc := coords_val t
  show i ∈ ((View.whole main_v0_2).slice (win0_10.rect t)).set
  rw [View.set_slice_whole, Rect.mem_set_unit]
  intro a
  match a with
  | ⟨0, _⟩ =>
    show win0_10.index t 0 * win0_10.size 0 ≤ (i 0).val
      ∧ (i 0).val < win0_10.index t 0 * win0_10.size 0 + win0_10.xsize (grid0.coords t) 0
    rw [hs.1, hz.1]; omega
  | ⟨1, _⟩ =>
    show win0_10.index t 1 * win0_10.size 1 ≤ (i 1).val
      ∧ (i 1).val < win0_10.index t 1 * win0_10.size 1 + win0_10.xsize (grid0.coords t) 1
    rw [hs.2.1, hz.2.1]; omega
  | ⟨2, _⟩ =>
    show win0_10.index t 2 * win0_10.size 2 ≤ (i 2).val
      ∧ (i 2).val < win0_10.index t 2 * win0_10.size 2 + win0_10.xsize (grid0.coords t) 2
    rw [hs.2.2.1, hz.2.2.1]; omega
  | ⟨3, _⟩ =>
    show win0_10.index t 3 * win0_10.size 3 ≤ (i 3).val
      ∧ (i 3).val < win0_10.index t 3 * win0_10.size 3 + win0_10.xsize (grid0.coords t) 3
    rw [hs.2.2.2, hz.2.2.2]; omega

/-- After the run the first result is `dx`, -/
theorem final8 : (dats m 0 c).arrAt 8 cfg0.N = dxArr (argsOf m c) :=
  (dats m 0 c).arrAt_eq_of_cover 8 (dxArr (argsOf m c)) (fun t _ => flushed8_eq m c t) cover8

/-- the second the modulation gradient, -/
theorem final9 : (dats m 0 c).arrAt 9 cfg0.N = modArr (argsOf m c) :=
  (dats m 0 c).arrAt_eq_of_cover 9 (modArr (argsOf m c)) (fun t hf => flushed9_eq m c t hf) cover9

/-- the third the modulation gradient of each block of tokens. -/
theorem final10 : (dats m 0 c).arrAt 10 cfg0.N = blkArr (argsOf m c) :=
  (dats m 0 c).arrAt_eq_of_cover 10 (blkArr (argsOf m c)) (fun t _ => flushed10_eq m c t) cover10

end Cert.KernelIdeal.Val

end
-- ==== Proof.RefMath.lean ====
module

public import proofs.«01_k».proof.Proof.Gen.ReferenceIdeal.Value
public import proofs.«01_k».proof.Proof.Rows
public import Idealize.ShloMosaic.Lib.ValueLayoutCasts

/-! # What the reference computes

Each of its three results at an index is the value of `Cert.Spec`. -/

@[expose] public section

noncomputable section

namespace Cert.ReferenceIdeal.Val

open Idealize.ShloMosaic Idealize.ShloMosaic.TcCoe Idealize.ShloMosaic.ValueIdx Cert.ReferenceIdeal.Gen Cert.Spec

/-- A token's index in blocks is its index in the sequence. -/
theorem flat_apply {α : Type} (x : S2x1024x3072.Idx → α) (h) (b : Fin 2) (j : Fin 8) (r : Fin 128) (d : Fin 3072) :
    shapeCast S2x8x128x3072 x h (ix4 b j r d) = x (ix3 b (tok j r) d) := by
  refine shapeCast_apply _ _ _ _ ?_
  rw [Shape.rowMajor_val_four, Shape.rowMajor_val_three]
  simp [ix4, ix3, tok]; omega

/-- A value per token, read at a token's feature. -/
theorem perRow_apply (v : FVec Ideal S2x8x128x1 .f32) (h) (b : Fin 2) (j : Fin 8) (r : Fin 128) (d : Fin 3072) :
    broadcastTo S2x8x128x3072 v h (ix4 b j r d) = v (ix4 b j r 0) :=
  broadcastTo_apply _ _ _ _ (by intro a; fin_cases a <;> rfl)

/-- Codes times the token's scale. -/
theorem deq_apply (v : FVec Ideal S2x1024x3072 .f32) (s : Vec Ideal S2x1024 .f32) (h1 h2 h3) (b : Fin 2) (j : Fin 8)
    (r : Fin 128) (d : Fin 3072) :
    shapeCast S2x8x128x3072 (mulf v (broadcastTo S2x1024x3072 (shapeCast S2x1024x1 s h1) h2)) h3 (ix4 b j r d)
      = (v (ix3 b (tok j r) d) * s (ix2 b (tok j r)) : EReal) := by
  refine (flat_apply _ _ b j r d).trans ?_
  show _ * _ = _
  refine congrArg (v (ix3 b (tok j r) d) * ·) ?_
  refine (broadcastTo_apply _ _ _ (ix3 b (tok j r) 0) (by intro a; fin_cases a <;> rfl)).trans ?_
  refine shapeCast_apply _ _ _ _ ?_
  rw [Shape.rowMajor_val_two, Shape.rowMajor_val_three]
  simp [ix2, ix3]

/-- The mean of a token's features. -/
def meanOf (u : FVec Ideal S2x8x128x3072 .f32) : FVec Ideal S2x8x128x1 .f32 :=
  divf (shapeCast S2x8x128x1 (multiReduction .add [3] S2x8x128 u 0x00000000#32 reduces_S2x8x128x3072_S2x8x128 (.inl rfl) rfl)
    shapeCasts_S2x8x128_S2x8x128x1) (broadcast S2x8x128x1 (Scalar.ofBits .f32 0x45400000#32))

theorem meanOf_apply (u : FVec Ideal S2x8x128x3072 .f32) (b : Fin 2) (j : Fin 8) (r : Fin 128) (z : Fin 1) :
    meanOf u (ix4 b j r z) = mean fun d => u (ix4 b j r d) := by
  rw [← div_eq_mean]
  have e : meanOf u (ix4 b j r z) = Ideal.div (shapeCast S2x8x128x1 (multiReduction .add [3] S2x8x128 u 0x00000000#32
    reduces_S2x8x128x3072_S2x8x128 (.inl rfl) rfl) shapeCasts_S2x8x128_S2x8x128x1 (ix4 b j r z) : EReal)
      (Ideal.ofBits .f32 0x45400000#32) := rfl
  rw [e]
  congr 1
  refine (shapeCast_apply _ _ _ (ix3 b j r) ?_).trans ?_
  · rw [Shape.rowMajor_val_four, Shape.rowMajor_val_three]
    have := z.isLt
    simp [ix4, ix3]
  refine (Ideal.multiReduction_add_single _ _ _ _ _ _).trans ?_
  refine Finset.sum_congr rfl fun d _ => congrArg u ?_
  funext a; fin_cases a <;> rfl

variable (A : Args)

/-- The quantities the reference derives from its arguments. -/
def dyV : FVec Ideal S2x8x128x3072 .f32 := k0_pay1 A.dy A.dys
def dhV : FVec Ideal S2x8x128x3072 .f32 := k0_pay2 A.dh A.dhs
def fV : FVec Ideal S2x8x128x3072 .f32 := k0_pay3 A.f
def xcV : FVec Ideal S2x8x128x3072 .f32 := k0_pay4 A.x A.xs
def varV : FVec Ideal S2x8x128x1 .f32 := k0_pay5 A.x A.xs

section
variable (b : Fin 2) (j : Fin 8) (r : Fin 128) (d : Fin 3072)

theorem dyV_apply : dyV A (ix4 b j r d) = (A.row b (tok j r)).dy d :=
  deq_apply (extf .f32 (A.dy : Vec Ideal S2x1024x3072 .fp8e5m2) bitsLt_fp8e5m2_f32) A.dys _ _ _ b j r d

theorem dhV_apply : dhV A (ix4 b j r d) = (A.row b (tok j r)).dh d :=
  deq_apply (extf .f32 (A.dh : Vec Ideal S2x1024x3072 .fp8e5m2) bitsLt_fp8e5m2_f32) A.dhs _ _ _ b j r d

theorem fV_apply : fV A (ix4 b j r d) = (A.row b (tok j r)).f d :=
  flat_apply (extf (F := Ideal) (s := S2x1024x3072) .f32 (A.f : FVec Ideal S2x1024x3072 .bf16) bitsLt_bf16_f32)
    shapeCasts_S2x1024x3072_S2x8x128x3072 b j r d

/-- The dequantized input. -/
def xV : FVec Ideal S2x8x128x3072 .f32 :=
  shapeCast S2x8x128x3072 (mulf (extf .f32 (A.x : Vec Ideal S2x1024x3072 .fp8e4m3) bitsLt_fp8e4m3_f32)
    (broadcastTo S2x1024x3072 (shapeCast S2x1024x1 (A.xs : Vec Ideal S2x1024 .f32) shapeCasts_S2x1024_S2x1024x1)
      broadcasts_S2x1024x1_S2x1024x3072)) shapeCasts_S2x1024x3072_S2x8x128x3072

theorem xV_apply : xV A (ix4 b j r d) = (A.row b (tok j r)).x d :=
  deq_apply (extf .f32 (A.x : Vec Ideal S2x1024x3072 .fp8e4m3) bitsLt_fp8e4m3_f32) A.xs _ _ _ b j r d

theorem xcV_apply : xcV A (ix4 b j r d) = (A.row b (tok j r)).xc d := by
  have e : xcV A (ix4 b j r d) = (xV A (ix4 b j r d) : EReal)
      - broadcastTo S2x8x128x3072 (meanOf (xV A)) broadcasts_S2x8x128x1_S2x8x128x3072 (ix4 b j r d) := rfl
  rw [e, perRow_apply, meanOf_apply, xV_apply]
  simp only [xV_apply]; rfl

theorem rstdV_apply (z : Fin 1) : k0_pay6 (varV A) (ix4 b j r z) = (A.row b (tok j r)).rstd := by
  have e : k0_pay6 (varV A) (ix4 b j r z)
      = Ideal.rsqrt ((meanOf (mulf (xcV A) (xcV A)) (ix4 b j r z) : EReal) + eps) := rfl
  rw [e, meanOf_apply]
  have e2 : ∀ d, mulf (xcV A) (xcV A) (ix4 b j r d) = (xcV A (ix4 b j r d) * xcV A (ix4 b j r d) : EReal) := fun _ => rfl
  simp only [e2, xcV_apply]; rfl

theorem xhatV_apply : k0_pay7 (xcV A) (varV A) (ix4 b j r d) = (A.row b (tok j r)).xhat d := by
  have e : k0_pay7 (xcV A) (varV A) (ix4 b j r d) = (xcV A (ix4 b j r d) : EReal)
      * broadcastTo S2x8x128x3072 (k0_pay6 (varV A)) broadcasts_S2x8x128x1_S2x8x128x3072 (ix4 b j r d) := rfl
  rw [e, perRow_apply, rstdV_apply, xcV_apply]; rfl

/-- The factor `1 + mod_scale`, for every token. -/
def mV : FVec Ideal S2x8x128x3072 .f32 :=
  broadcastTo S2x8x128x3072 (addf (broadcast S2x1x1x3072 (Scalar.ofBits .f32 0x3F800000#32))
    (shapeCast S2x1x1x3072 (A.ms : Vec Ideal S2x3072 .f32) shapeCasts_S2x3072_S2x1x1x3072)) broadcasts_S2x1x1x3072_S2x8x128x3072

theorem mV_apply : mV A (ix4 b j r d) = (A.row b (tok j r)).m d := by
  refine (broadcastTo_apply _ _ _ (ix4 b 0 0 d) (by intro a; fin_cases a <;> rfl)).trans ?_
  show Ideal.ofBits .f32 0x3F800000#32 + _ = _
  refine congrArg (Ideal.ofBits .f32 0x3F800000#32 + ·) ?_
  refine shapeCast_apply _ _ _ _ ?_
  rw [Shape.rowMajor_val_two, Shape.rowMajor_val_four]
  simp [ix2, ix4]

/-- The gradient at the normalized input, for every token. -/
def gV : FVec Ideal S2x8x128x3072 .f32 := mulf (dhV A) (mV A)

theorem gV_apply : gV A (ix4 b j r d) = (A.row b (tok j r)).g d := by
  have e : gV A (ix4 b j r d) = (dhV A (ix4 b j r d) * mV A (ix4 b j r d) : EReal) := rfl
  rw [e, dhV_apply, mV_apply]; rfl

theorem gxV_apply (z : Fin 1) : meanOf (mulf (gV A) (k0_pay7 (xcV A) (varV A))) (ix4 b j r z) = (A.row b (tok j r)).gx := by
  rw [meanOf_apply]
  have e : ∀ d, mulf (gV A) (k0_pay7 (xcV A) (varV A)) (ix4 b j r d)
      = (gV A (ix4 b j r d) * k0_pay7 (xcV A) (varV A) (ix4 b j r d) : EReal) := fun _ => rfl
  simp only [e, gV_apply, xhatV_apply]; rfl

/-- The first result. -/
theorem dx_apply :
    k0_pay10 (dyV A) (dhV A) (xcV A) (varV A) (A.ms : Vec Ideal S2x3072 .f32) (ix3 b (tok j r) d) = A.dx b (tok j r) d := by
  have unflat : ∀ (w : FVec Ideal S2x8x128x3072 .bf16) (h),
      shapeCast S2x1024x3072 w h (ix3 b (tok j r) d) = w (ix4 b j r d) := by
    intro w h
    refine shapeCast_apply _ _ _ _ ?_
    rw [Shape.rowMajor_val_three, Shape.rowMajor_val_four]
    simp [ix4, ix3, tok]; omega
  have e0 : k0_pay10 (dyV A) (dhV A) (xcV A) (varV A) (A.ms : Vec Ideal S2x3072 .f32) = shapeCast S2x1024x3072
      (truncf .bf16 (addf (dyV A) (mulf (broadcastTo S2x8x128x3072 (k0_pay6 (varV A)) broadcasts_S2x8x128x1_S2x8x128x3072)
        (subf (subf (gV A) (broadcastTo S2x8x128x3072 (meanOf (gV A)) broadcasts_S2x8x128x1_S2x8x128x3072))
          (mulf (k0_pay7 (xcV A) (varV A)) (broadcastTo S2x8x128x3072 (meanOf (mulf (gV A) (k0_pay7 (xcV A) (varV A))))
            broadcasts_S2x8x128x1_S2x8x128x3072))))) bitsLt_bf16_f32) shapeCasts_S2x8x128x3072_S2x1024x3072 := rfl
  rw [e0]
  refine (unflat _ shapeCasts_S2x8x128x3072_S2x1024x3072).trans ?_
  have e : ∀ u v w : FVec Ideal S2x8x128x1 .f32, ∀ p q s t : FVec Ideal S2x8x128x3072 .f32, ∀ h1 h2 h3 h4,
      truncf .bf16 (addf p (mulf (broadcastTo S2x8x128x3072 u h1) (subf (subf q (broadcastTo S2x8x128x3072 v h2))
        (mulf s (broadcastTo S2x8x128x3072 w h3))))) h4 (ix4 b j r d)
      = (p (ix4 b j r d) + u (ix4 b j r 0) * (q (ix4 b j r d) - v (ix4 b j r 0) - s (ix4 b j r d) * w (ix4 b j r 0)) : EReal) := by
    intro u v w p q s t h1 h2 h3 h4
    rw [← perRow_apply u h1 b j r d, ← perRow_apply v h2 b j r d, ← perRow_apply w h3 b j r d]; rfl
  refine (e (k0_pay6 (varV A)) (meanOf (gV A)) (meanOf (mulf (gV A) (k0_pay7 (xcV A) (varV A)))) (dyV A) (gV A)
    (k0_pay7 (xcV A) (varV A)) (dyV A) _ _ _ _).trans ?_
  rw [dyV_apply, rstdV_apply, gV_apply, meanOf_apply, xhatV_apply, gxV_apply]
  simp only [gV_apply]; rfl

end

/-- The three summands of the modulation gradient. -/
def vV : Fin 3 → FVec Ideal S2x8x128x3072 .f32
  | 0 => dhV A
  | 1 => mulf (dhV A) (k0_pay7 (xcV A) (varV A))
  | 2 => mulf (dyV A) (fV A)

theorem vV_apply (q : Fin 3) (b : Fin 2) (j : Fin 8) (r : Fin 128) (d : Fin 3072) :
    vV A q (ix4 b j r d) = (A.row b (tok j r)).v q d := by
  fin_cases q
  · exact dhV_apply A b j r d
  · have e : vV A 1 (ix4 b j r d) = (dhV A (ix4 b j r d) * k0_pay7 (xcV A) (varV A) (ix4 b j r d) : EReal) := rfl
    refine e.trans ?_
    rw [dhV_apply, xhatV_apply]; rfl
  · have e : vV A 2 (ix4 b j r d) = (dyV A (ix4 b j r d) * fV A (ix4 b j r d) : EReal) := rfl
    refine e.trans ?_
    rw [dyV_apply, fV_apply]; rfl

/-- A block's sum over its tokens. -/
def sumOf (u : FVec Ideal S2x8x128x3072 .f32) : FVec Ideal S2x8x1x3072 .f32 :=
  shapeCast S2x8x1x3072 (multiReduction .add [2] S2x8x3072 u 0x00000000#32 reduces_S2x8x128x3072_S2x8x3072 (.inl rfl) rfl)
    shapeCasts_S2x8x3072_S2x8x1x3072

theorem sumOf_apply (u : FVec Ideal S2x8x128x3072 .f32) (b : Fin 2) (j : Fin 8) (z : Fin 1) (d : Fin 3072) :
    sumOf u (ix4 b j z d) = (∑ r : Fin 128, u (ix4 b j r d) : EReal) := by
  refine (shapeCast_apply _ _ _ (ix3 b j d) ?_).trans ?_
  · rw [Shape.rowMajor_val_four, Shape.rowMajor_val_three]
    simp [ix4, ix3]
  refine (Ideal.multiReduction_add_single _ _ _ _ _ _).trans ?_
  refine Finset.sum_congr rfl fun r _ => congrArg u ?_
  funext a; fin_cases a <;> rfl

/-- The third result. -/
theorem blk_apply (b : Fin 2) (j : Fin 8) (q : Fin 3) (d : Fin 3072) :
    k0_pay8 (dyV A) (dhV A) (fV A) (xcV A) (varV A) (ix4 b j q d) = A.blk b j q d := by
  have key : k0_pay8 (dyV A) (dhV A) (fV A) (xcV A) (varV A) (ix4 b j q d) = sumOf (vV A q) (ix4 b j 0 d) := by
    have e : k0_pay8 (dyV A) (dhV A) (fV A) (xcV A) (varV A) = concatenate S2x8x3x3072 2
        [⟨S2x8x1x3072, sumOf (vV A 0)⟩, ⟨S2x8x1x3072, sumOf (vV A 1)⟩, ⟨S2x8x1x3072, sumOf (vV A 2)⟩]
        concatenates_S2x8x1x3072_S2x8x1x3072_S2x8x1x3072_S2x8x3x3072_d2 := rfl
    rw [e]
    refine concatenate_apply_piece (t := S2x8x3x3072) (2 : Fin 4) [⟨S2x8x1x3072, sumOf (vV A 0)⟩, ⟨S2x8x1x3072, sumOf (vV A 1)⟩,
      ⟨S2x8x1x3072, sumOf (vV A 2)⟩] _ _ q.val (by exact q.isLt) S2x8x1x3072 (sumOf (vV A q)) ?_ rfl q.val ?_ (ix4 b j 0 d) ?_ ?_
    · fin_cases q <;> rfl
    · fin_cases q <;> rfl
    · intro a ha
      fin_cases a
      · rfl
      · rfl
      · exact absurd rfl ha
      · rfl
    · rfl
  rw [key, sumOf_apply]
  exact Finset.sum_congr rfl fun r _ => vV_apply A q b j r d

/-- The second result. -/
theorem dmod_apply (b : Fin 2) (q : Fin 3) (d : Fin 3072) :
    k0_pay9 (dyV A) (dhV A) (fV A) (xcV A) (varV A) (ix3 b q d) = A.dmod b q d := by
  refine (Ideal.multiReduction_add_single (φ := .f32) (k0_pay8 (dyV A) (dhV A) (fV A) (xcV A) (varV A)) 0x00000000#32
    reduces_S2x8x3x3072_S2x3x3072 (.inl rfl) rfl (ix3 b q d)).trans ?_
  refine Finset.sum_congr rfl fun j _ => ?_
  refine Eq.trans (congrArg _ ?_) (blk_apply A b j q d)
  funext a; fin_cases a <;> rfl

/-- The index of a token in its block. -/
theorem tok_split (s : Fin 1024) : ∃ j r, s = tok j r :=
  ⟨⟨s.val / 128, by omega⟩, ⟨s.val % 128, by omega⟩, Fin.ext (by simp [tok]; omega)⟩

/-- A load of a whole array reads the array. -/
theorem ld3 {e : EltTy} (X : Vec Ideal S2x1024x3072 e) : View.ld X r0_0 = X :=
  View.ld_unit_zero (funext (by intro a; fin_cases a <;> rfl)) _ X

theorem ld2 {e : EltTy} (X : Vec Ideal S2x1024 e) : View.ld X r0_1 = X :=
  View.ld_unit_zero (funext (by intro a; fin_cases a <;> rfl)) _ X

/-- The three results of the reference's run. -/
theorem G8_apply (b : Fin 2) (s : Fin 1024) (d : Fin 3072) :
    Value.G8 (F := Ideal) A.x A.xs A.f A.dy A.dys A.dh A.dhs A.ms (ix3 b s d) = A.dx b s d := by
  obtain ⟨j, r, rfl⟩ := tok_split s
  have e : Value.G8 (F := Ideal) A.x A.xs A.f A.dy A.dys A.dh A.dhs A.ms
      = k0_pay10 (dyV A) (dhV A) (xcV A) (varV A) (A.ms : Vec Ideal S2x3072 .f32) := by
    simp only [Value.G8, k0_pay11, k0_pay12, k0_pay14, k0_pay15, ld3, ld2, dyV, dhV, xcV, varV]
  rw [e, dx_apply]

theorem G9_apply (b : Fin 2) (q : Fin 3) (d : Fin 3072) :
    Value.G9 (F := Ideal) A.x A.xs A.f A.dy A.dys A.dh A.dhs A.ms (ix3 b q d) = A.dmod b q d := by
  have e : Value.G9 (F := Ideal) A.x A.xs A.f A.dy A.dys A.dh A.dhs A.ms
      = k0_pay9 (dyV A) (dhV A) (fV A) (xcV A) (varV A) := by
    simp only [Value.G9, k0_pay11, k0_pay12, k0_pay13, k0_pay14, k0_pay15, ld3, ld2, dyV, dhV, fV, xcV, varV]
  rw [e, dmod_apply]

theorem G10_apply (b : Fin 2) (j : Fin 8) (q : Fin 3) (d : Fin 3072) :
    Value.G10 (F := Ideal) A.x A.xs A.f A.dy A.dys A.dh A.dhs A.ms (ix4 b j q d) = A.blk b j q d := by
  have e : Value.G10 (F := Ideal) A.x A.xs A.f A.dy A.dys A.dh A.dhs A.ms
      = k0_pay8 (dyV A) (dhV A) (fV A) (xcV A) (varV A) := by
    simp only [Value.G10, k0_pay11, k0_pay12, k0_pay13, k0_pay14, k0_pay15, ld3, ld2, dyV, dhV, fV, xcV, varV]
  rw [e, blk_apply]

end Cert.ReferenceIdeal.Val

end
-- ==== Proof.Equal.lean ====
module

public import proofs.«01_k».proof.Defs
public import proofs.«01_k».proof.Proof.Arrays
public import proofs.«01_k».proof.Proof.RefMath

/-! # Kernel and reference compute the same three results -/

@[expose] public section

noncomputable section

namespace Cert.Proof

open Idealize.ShloMosaic Idealize.ShloMosaic.TcCoe Idealize.ShloMosaic.ValueIdx Idealize.SL.Sem Cert.Spec
open Cert.KernelIdeal.Val (argsOf dxArr modArr blkArr)

variable (A : Args)

/-- The reference's results, as the arrays that the kernel ends with. -/
theorem ref_dx : Cert.ReferenceIdeal.Value.G8 (F := Ideal) A.x A.xs A.f A.dy A.dys A.dh A.dhs A.ms = dxArr A := by
  funext i
  have e : i = ix3 (i 0) (i 1) (i 2) := by funext a; fin_cases a <;> rfl
  rw [e]
  exact Cert.ReferenceIdeal.Val.G8_apply A (i 0) (i 1) (i 2)

theorem ref_mod : Cert.ReferenceIdeal.Value.G9 (F := Ideal) A.x A.xs A.f A.dy A.dys A.dh A.dhs A.ms = modArr A := by
  funext i
  have e : i = ix3 (i 0) (i 1) (i 2) := by funext a; fin_cases a <;> rfl
  rw [e]
  exact Cert.ReferenceIdeal.Val.G9_apply A (i 0) (i 1) (i 2)

theorem ref_blk : Cert.ReferenceIdeal.Value.G10 (F := Ideal) A.x A.xs A.f A.dy A.dys A.dh A.dhs A.ms = blkArr A := by
  funext i
  have e : i = ix4 (i 0) (i 1) (i 2) (i 3) := by funext a; fin_cases a <;> rfl
  rw [e]
  exact Cert.ReferenceIdeal.Val.G10_apply A (i 0) (i 1) (i 2) (i 3)

/-- From the same arguments both runs end with the same results, and leave the arguments as they were. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => dxArr (argsOf m c), fun c => modArr (argsOf m c), fun c => blkArr (argsOf m c), ?_, ?_⟩
  · refine (θ_run _ _ _).mono (fun r hr c => ?_) (Cert.KernelIdeal.Value.run_blocks m g)
    obtain ⟨h0, h1, h2, hargs⟩ := hr c
    exact ⟨h0.trans (Cert.KernelIdeal.Val.final8 m c), h1.trans (Cert.KernelIdeal.Val.final9 m c),
      h2.trans (Cert.KernelIdeal.Val.final10 m c), hargs⟩
  · refine (θ_run _ _ _).mono (fun r hr c => ?_) (Cert.ReferenceIdeal.Value.run m' g')
    obtain ⟨h0, h1, h2, hargs⟩ := hr c
    obtain ⟨a0, a1, a2, a3, a4, a5, a6, a7⟩ := h c
    rw [a0, a1, a2, a3, a4, a5, a6, a7] at h0 h1 h2
    exact ⟨h0.trans (ref_dx (argsOf m c)), h1.trans (ref_mod (argsOf m c)), h2.trans (ref_blk (argsOf m c)), hargs⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Kf.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ,
  IdealRules.named_const.statement Cert.KernelIdeal.κ "inv_d" .f32 0x39AAAAAB#32 ((1 / 3072 : ℝ) : EReal) rfl,
  algebraic⟩

end Cert.Proof

end
